-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x256 : Shape := ⟨2, ![4096, 256]⟩
abbrev S32x32x256 : Shape := ⟨3, ![32, 32, 256]⟩
abbrev S_ : Shape := ⟨0, ![]⟩

class Facts : Prop where
  bcast_S_S4096x256 : S_.BroadcastsInDim S4096x256 (![] : Fin 0 → Fin S4096x256.rank)
  bcast_S_S32x32x256 : S_.BroadcastsInDim S32x32x256 (![] : Fin 0 → Fin S32x32x256.rank)

variable [Facts]

def fn {F : FTy → Type} [FloatOps F] (main_arg0 : FVec F S4096x256 .f32) (main_arg1 : FVec F S32x32x256 .f32) : IVec S4096x256 1 × IVec S32x32x256 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_v3 : FVec F S32x32x256 .f32 := Host.absf main_arg1
  let main_cst_0 : FVec F S_ .f32 := constant S_ .f32 0x7F800000#32
  let main_v4 : FVec F S32x32x256 .f32 := broadcastInDim S32x32x256 ![] bcast_S_S32x32x256 main_cst_0
  let main_v5 : IVec S32x32x256 1 := cmpf .olt main_v3 main_v4
  (main_v2, main_v5)
-- ==== Kernel.lean ====
abbrev S4096x256 : Shape := ⟨2, ![4096, 256]⟩
abbrev S32x32x256 : Shape := ⟨3, ![32, 32, 256]⟩
abbrev S1024x256 : Shape := ⟨2, ![1024, 256]⟩
abbrev S4096 : Shape := ⟨1, ![4096]⟩
abbrev S256x256 : Shape := ⟨2, ![256, 256]⟩
abbrev S1024 : Shape := ⟨1, ![1024]⟩
abbrev S1024x1 : Shape := ⟨2, ![1024, 1]⟩
abbrev S1x1024 : Shape := ⟨2, ![1, 1024]⟩
abbrev S8x1024 : Shape := ⟨2, ![8, 1024]⟩
abbrev S256 : Shape := ⟨1, ![256]⟩
abbrev S256x1 : Shape := ⟨2, ![256, 1]⟩
abbrev S1x256 : Shape := ⟨2, ![1, 256]⟩
abbrev S256x1024 : Shape := ⟨2, ![256, 1024]⟩
abbrev S8x1 : Shape := ⟨2, ![8, 1]⟩
abbrev S_ : Shape := ⟨0, ![]⟩
abbrev S4096x1 : Shape := ⟨2, ![4096, 1]⟩
abbrev S4096x2 : Shape := ⟨2, ![4096, 2]⟩

abbrev nBuf : Space → Nat
  | .hbm => 48
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S32x32x256, .f32⟩
  | .hbm, ⟨2, _⟩ => ⟨S1024x256, .f32⟩
  | .hbm, ⟨3, _⟩ => ⟨S4096, .i32⟩
  | .hbm, ⟨4, _⟩ => ⟨S4096, .f32⟩
  | .hbm, ⟨5, _⟩ => ⟨S_, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S_, .i1⟩
  | .hbm, ⟨39, _⟩ => ⟨S4096, .i1⟩
  | .hbm, ⟨40, _⟩ => ⟨S4096, .i1⟩
  | .hbm, ⟨41, _⟩ => ⟨S4096, .i1⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096x1, .i32⟩
  | .hbm, ⟨46, _⟩ => ⟨S4096x1, .i32⟩
  | .hbm, ⟨47, _⟩ => ⟨S4096x2, .i32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S256x256, .f32⟩
  | .local _ .vmem, ⟨4, _⟩ => ⟨S1024, .i32⟩
  | .local _ .vmem, ⟨5, _⟩ => ⟨S1024, .i32⟩
  | .local _ .vmem, ⟨6, _⟩ => ⟨S1024, .f32⟩
  | .local _ .vmem, ⟨7, _⟩ => ⟨S1024, .f32⟩
  | .local _ .vmem, ⟨8, _⟩ => ⟨S1024x1, .f32⟩
  | .local _ .vmem, ⟨9, _⟩ => ⟨S1024x256, .f32⟩
  | .local _ .vmem, ⟨10, _⟩ => ⟨S1x1024, .f32⟩
  | .local _ .vmem, ⟨11, _⟩ => ⟨S8x1024, .f32⟩
  | .local _ .vmem, ⟨12, _⟩ => ⟨S8x1024, .i32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_c : Ref sig .tc := ⟨.hbm, 5, rfl⟩
abbrev main_call1_v0 : Ref sig .tc := ⟨.hbm, 6, rfl⟩
abbrev main_call1_v1 : Ref sig .tc := ⟨.hbm, 7, rfl⟩
abbrev main_call1_v2 : Ref sig .tc := ⟨.hbm, 8, rfl⟩
abbrev main_call1_v3 : Ref sig .tc := ⟨.hbm, 9, rfl⟩
abbrev main_call1_v4 : Ref sig .tc := ⟨.hbm, 10, rfl⟩
abbrev main_call1_v5 : Ref sig .tc := ⟨.hbm, 11, rfl⟩
abbrev main_call1_v6 : Ref sig .tc := ⟨.hbm, 12, rfl⟩
abbrev main_call1_v7 : Ref sig .tc := ⟨.hbm, 13, rfl⟩
abbrev main_call1_v8 : Ref sig .tc := ⟨.hbm, 14, rfl⟩
abbrev main_call1_c : Ref sig .tc := ⟨.hbm, 15, rfl⟩
abbrev main_call1_v9 : Ref sig .tc := ⟨.hbm, 16, rfl⟩
abbrev main_call1_v10 : Ref sig .tc := ⟨.hbm, 17, rfl⟩
abbrev main_call1_v11 : Ref sig .tc := ⟨.hbm, 18, rfl⟩
abbrev main_call1_c_0 : Ref sig .tc := ⟨.hbm, 19, rfl⟩
abbrev main_call1_v12 : Ref sig .tc := ⟨.hbm, 20, rfl⟩
abbrev main_call1_v13 : Ref sig .tc := ⟨.hbm, 21, rfl⟩
abbrev main_v2 : Ref sig .tc := ⟨.hbm, 22, rfl⟩
abbrev main_c_0 : Ref sig .tc := ⟨.hbm, 23, rfl⟩
abbrev main_call2_v0 : Ref sig .tc := ⟨.hbm, 24, rfl⟩
abbrev main_call2_c : Ref sig .tc := ⟨.hbm, 25, rfl⟩
abbrev main_call2_v1 : Ref sig .tc := ⟨.hbm, 26, rfl⟩
abbrev main_call2_c_0 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_c_1 : Ref sig .tc := ⟨.hbm, 31, rfl⟩
abbrev main_call2_v5 : Ref sig .tc := ⟨.hbm, 32, rfl⟩
abbrev main_call2_v6 : Ref sig .tc := ⟨.hbm, 33, rfl⟩
abbrev main_call2_c_2 : Ref sig .tc := ⟨.hbm, 34, rfl⟩
abbrev main_call2_v7 : Ref sig .tc := ⟨.hbm, 35, rfl⟩
abbrev main_call2_v8 : Ref sig .tc := ⟨.hbm, 36, rfl⟩
abbrev main_call2_c_3 : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_v12 : Ref sig .tc := ⟨.hbm, 41, rfl⟩
abbrev main_call2_v13 : Ref sig .tc := ⟨.hbm, 42, rfl⟩
abbrev main_call2_v14 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_1 : BitVec 32 := 0#32
  let v4 : BitVec 1 := Scalar.cmpi .ne v3 c0_i32_1
  v4

def k0_off1 (i : grid0.Coords) : Fin 2 → Nat :=
  let arg1 : BitVec 32 := BitVec.ofNat 32 (i 1).val
  let c256_i32_21 : BitVec 32 := 256#32
  let v381 : BitVec 32 := Scalar.muli arg1 c256_i32_21
  let v382 : Index := Scalar.indexCast v381
  let c0_22 : Index := 0#32
  ![v382.toNat, 0]
def k0_off2 (i : grid0.Coords) : Fin 2 → Nat :=
  let arg1 : BitVec 32 := BitVec.ofNat 32 (i 1).val
  let c256_i32 : BitVec 32 := 256#32
  let v11 : BitVec 32 := Scalar.muli arg1 c256_i32
  let v12 : Index := Scalar.indexCast v11
  let c0_8 : Index := 0#32
  ![v12.toNat, 0]
def k0_cond3 (i : grid0.Coords) : BitVec 1 :=
  let arg1 : BitVec 32 := BitVec.ofNat 32 (i 1).val
  let c3_i32_18 : BitVec 32 := 3#32
  let v375 : BitVec 1 := Scalar.cmpi .eq arg1 c3_i32_18
  let v376 : BitVec 32 := Scalar.extui v375
  let c0_i32_19 : BitVec 32 := 0#32
  let v377 : BitVec 1 := Scalar.cmpi .ne v376 c0_i32_19
  v377

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S4096x256 : Shape := ⟨2, ![4096, 256]⟩
abbrev S32x32x256 : Shape := ⟨3, ![32, 32, 256]⟩
abbrev S1024x256 : Shape := ⟨2, ![1024, 256]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x1024 : Shape := ⟨2, ![1, 1024]⟩
abbrev S256x1024 : Shape := ⟨2, ![256, 1024]⟩
abbrev S4096x1024 : Shape := ⟨2, ![4096, 1024]⟩
abbrev S4096x2 : Shape := ⟨2, ![4096, 2]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S32x32x256, .f32⟩
  | .hbm, ⟨2, _⟩ => ⟨S1024x256, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S1024x256, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S256x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .i32⟩
  | .hbm, ⟨24, _⟩ => ⟨S_, .f32⟩
  | .hbm, ⟨25, _⟩ => ⟨S_, .i32⟩
  | .hbm, ⟨26, _⟩ => ⟨S4096, .f32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S_, .i32⟩
  | .hbm, ⟨55, _⟩ => ⟨S4096, .i32⟩
  | .hbm, ⟨56, _⟩ => ⟨S4096, .i1⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S_, .i32⟩
  | .hbm, ⟨61, _⟩ => ⟨S_, .i1⟩
  | .hbm, ⟨62, _⟩ => ⟨S4096, .i1⟩
  | .hbm, ⟨63, _⟩ => ⟨S4096, .i1⟩
  | .hbm, ⟨64, _⟩ => ⟨S4096, .i1⟩
  | .hbm, ⟨65, _⟩ => ⟨S4096, .i32⟩
  | .hbm, ⟨66, _⟩ => ⟨S4096, .i32⟩
  | .hbm, ⟨67, _⟩ => ⟨S4096, .i32⟩
  | .hbm, ⟨68, _⟩ => ⟨S4096x1, .i32⟩
  | .hbm, ⟨69, _⟩ => ⟨S4096x1, .i32⟩
  | .hbm, ⟨70, _⟩ => ⟨S4096x2, .i32⟩
  | .hbm, ⟨71, _⟩ => ⟨S4096x1, .i32⟩
  | .hbm, ⟨72, _⟩ => ⟨S_, .i32⟩
  | .hbm, ⟨73, _⟩ => ⟨S4096x1, .i32⟩
  | .hbm, ⟨74, _⟩ => ⟨S4096x1, .i1⟩
  | .hbm, ⟨75, _⟩ => ⟨S_, .i32⟩
  | .hbm, ⟨76, _⟩ => ⟨S4096x1, .i32⟩
  | .hbm, ⟨77, _⟩ => ⟨S4096x1, .i32⟩
  | .hbm, ⟨78, _⟩ => ⟨S4096x1, .i32⟩
  | .hbm, ⟨79, _⟩ => ⟨S4096x1x1, .i32⟩
  | .hbm, ⟨80, _⟩ => ⟨S1, .i32⟩
  | .hbm, ⟨81, _⟩ => ⟨S_, .i32⟩
  | .hbm, ⟨82, _⟩ => ⟨S4096x1x1, .i32⟩
  | .hbm, ⟨83, _⟩ => ⟨S4096x1x1, .i1⟩
  | .hbm, ⟨84, _⟩ => ⟨S1x1x1, .i32⟩
  | .hbm, ⟨85, _⟩ => ⟨S4096x1x1, .i32⟩
  | .hbm, ⟨86, _⟩ => ⟨S4096x1x1, .i1⟩
  | .hbm, ⟨87, _⟩ => ⟨S4096x1x1, .i1⟩
  | .hbm, ⟨88, _⟩ => ⟨S_, .i1⟩
  | .hbm, ⟨89, _⟩ => ⟨S4096x1, .i1⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S4096, .f32⟩
  | .hbm, ⟨95, _⟩ => ⟨S4096, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_c : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v18 : Ref sig .tc := ⟨.hbm, 45, rfl⟩
abbrev main_c_3 : Ref sig .tc := ⟨.hbm, 46, rfl⟩
abbrev main_call2_v0 : Ref sig .tc := ⟨.hbm, 47, rfl⟩
abbrev main_call2_c : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_c_1 : Ref sig .tc := ⟨.hbm, 54, rfl⟩
abbrev main_call2_v5 : Ref sig .tc := ⟨.hbm, 55, rfl⟩
abbrev main_call2_v6 : Ref sig .tc := ⟨.hbm, 56, rfl⟩
abbrev main_call2_c_2 : Ref sig .tc := ⟨.hbm, 57, rfl⟩
abbrev main_call2_v7 : Ref sig .tc := ⟨.hbm, 58, rfl⟩
abbrev main_call2_v8 : Ref sig .tc := ⟨.hbm, 59, rfl⟩
abbrev main_call2_c_3 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_c_1 : Ref sig .tc := ⟨.hbm, 80, rfl⟩
abbrev main_call3_c_2 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_3 : Ref sig .tc := ⟨.hbm, 88, rfl⟩
abbrev main_call3_v12 : Ref sig .tc := ⟨.hbm, 89, rfl⟩
abbrev main_call3_v13 : Ref sig .tc := ⟨.hbm, 90, rfl⟩
abbrev main_call3_cst : Ref sig .tc := ⟨.hbm, 91, rfl⟩
abbrev main_call3_v14 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩

abbrev nD : Nat := 1
abbrev τ : Topo := Topo.v7x

variable {F : FTy → Type} [FloatOps F]
-- ==== Proof.ReferenceIdeal.Frame.lean ====
/- The reference runs, its arguments end unchanged and no semaphore is left raised. -/
module

public import proofs.«01_k».proof.Proof.Gen.ReferenceIdeal
public import Idealize.ShloMosaic.Lib.Claim
public import Idealize.ShloMosaic.PureOps.Ideal
public import Idealize.ShloMosaic.Lib.Quiescent
public import Idealize.ShloMosaic.Adequacy
public import Idealize.ShloMosaic.Init

@[expose] public section

set_option maxRecDepth 16384

noncomputable section

namespace Cert.ReferenceIdeal.Hand

open Idealize.ShloMosaic Idealize.SL.Sem Cert.ReferenceIdeal Cert.ReferenceIdeal.Gen

/-- The reference is a straight line of host operations: it runs, and writes neither argument. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  hlo_run
  · exact fun _ => ⟨trivial, trivial⟩
  · exact sem_eq_zero_of_no_sems (sig := sig) (by decide) _

end Cert.ReferenceIdeal.Hand

end
-- ==== Proof.KernelIdeal.Scan.lean ====
/- What one grid point of the kernel computes, as functions of the contents it reads: the 32 row groups of a
   slab of weights scanned in order, and the values stored at the end. -/
module

public import proofs.«01_k».proof.Proof.Gen.KernelIdeal.Frame
public import proofs.«01_k».proof.Proof.Gen.KernelIdeal.Skeleton
public import proofs.«01_k».proof.Proof.Gen.KernelIdeal.Points

@[expose] public section

set_option maxRecDepth 16384

noncomputable section

namespace Cert.KernelIdeal.Hand

open Idealize.ShloMosaic Cert.KernelIdeal.Gen

variable {F : FTy → Type} [FloatOps F]

/-- The kernel's base row number of a slab: 32 groups to a slab. -/
abbrev base (i : grid0.Coords) : BitVec 32 := Scalar.muli (BitVec.ofNat 32 (i 1).val) 32#32

section
variable (i : grid0.Coords) (w : Vec F S256x256 .f32) (x2 : Vec F S1024x256 .f32) (xs : Vec F S1x1024 .f32)
  (ws : Vec F S256x1 .f32) (b : Vec F S8x1024 .f32) (r : Vec F S8x1024 .i32)

/-- The products of the slab's rows with the block's doubled and negated rows. -/
def cross : FVec F S256x1024 .f32 := k0_pay13 w x2

/-! The body is cut after 2, 7, 12, 17, 22, 27 and 32 groups. At each cut it holds the best distances, the comparison
    of the last group, and the best groups that this comparison has yet to change. -/

/-- The best distances after 2 groups. -/
def bst1 : FVec F S8x1024 .f32 := k0_pay19 w x2 xs ws b
/-- The comparison of the last of the first 2 groups. -/
def msk1 : IVec S8x1024 1 := k0_pay18 w x2 xs ws b
/-- The best groups after 1 groups. -/
def row1 : IVec S8x1024 32 := k0_pay16 i w x2 xs ws b r
/-- The best distances after 7 groups. -/
def bst2 : FVec F S8x1024 .f32 := k0_pay31 (cross w x2) xs ws (bst1 w x2 xs ws b)
/-- The comparison of the last of the first 7 groups. -/
def msk2 : IVec S8x1024 1 := k0_pay30 (cross w x2) xs ws (bst1 w x2 xs ws b)
/-- The best groups after 6 groups. -/
def row2 : IVec S8x1024 32 := k0_pay28 (cross w x2) xs ws (base i) (row1 i w x2 xs ws b r) (msk1 w x2 xs ws b) (bst1 w x2 xs ws b) 1#32
/-- The best distances after 12 groups. -/
def bst3 : FVec F S8x1024 .f32 := k0_pay43 (cross w x2) xs ws (bst2 w x2 xs ws b)
/-- The comparison of the last of the first 12 groups. -/
def msk3 : IVec S8x1024 1 := k0_pay42 (cross w x2) xs ws (bst2 w x2 xs ws b)
/-- The best groups after 11 groups. -/
def row3 : IVec S8x1024 32 := k0_pay40 (cross w x2) xs ws (base i) (row2 i w x2 xs ws b r) (msk2 w x2 xs ws b) (bst2 w x2 xs ws b) 6#32
/-- The best distances after 17 groups. -/
def bst4 : FVec F S8x1024 .f32 := k0_pay55 (cross w x2) xs ws (bst3 w x2 xs ws b)
/-- The comparison of the last of the first 17 groups. -/
def msk4 : IVec S8x1024 1 := k0_pay54 (cross w x2) xs ws (bst3 w x2 xs ws b)
/-- The best groups after 16 groups. -/
def row4 : IVec S8x1024 32 := k0_pay52 (cross w x2) xs ws (base i) (row3 i w x2 xs ws b r) (msk3 w x2 xs ws b) (bst3 w x2 xs ws b) 11#32
/-- The best distances after 22 groups. -/
def bst5 : FVec F S8x1024 .f32 := k0_pay67 (cross w x2) xs ws (bst4 w x2 xs ws b)
/-- The comparison of the last of the first 22 groups. -/
def msk5 : IVec S8x1024 1 := k0_pay66 (cross w x2) xs ws (bst4 w x2 xs ws b)
/-- The best groups after 21 groups. -/
def row5 : IVec S8x1024 32 := k0_pay64 (cross w x2) xs ws (base i) (row4 i w x2 xs ws b r) (msk4 w x2 xs ws b) (bst4 w x2 xs ws b) 16#32
/-- The best distances after 27 groups. -/
def bst6 : FVec F S8x1024 .f32 := k0_pay79 (cross w x2) xs ws (bst5 w x2 xs ws b)
/-- The comparison of the last of the first 27 groups. -/
def msk6 : IVec S8x1024 1 := k0_pay78 (cross w x2) xs ws (bst5 w x2 xs ws b)
/-- The best groups after 26 groups. -/
def row6 : IVec S8x1024 32 := k0_pay76 (cross w x2) xs ws (base i) (row5 i w x2 xs ws b r) (msk5 w x2 xs ws b) (bst5 w x2 xs ws b) 21#32
/-- The best distances after 32 groups. -/
def bst7 : FVec F S8x1024 .f32 := k0_pay91 (cross w x2) xs ws (bst6 w x2 xs ws b)
/-- The comparison of the last of the first 32 groups. -/
def msk7 : IVec S8x1024 1 := k0_pay90 (cross w x2) xs ws (bst6 w x2 xs ws b)
/-- The best groups after 31 groups. -/
def row7 : IVec S8x1024 32 := k0_pay88 (cross w x2) xs ws (base i) (row6 i w x2 xs ws b r) (msk6 w x2 xs ws b) (bst6 w x2 xs ws b) 26#32

/-- The best distances the slab leaves. -/
def newBest : Vec F S8x1024 .f32 := k0_pay2 (bst7 w x2 xs ws b)
/-- The best groups the slab leaves. -/
def newRow : Vec F S8x1024 .i32 := k0_pay3 (base i) (row7 i w x2 xs ws b r) (msk7 w x2 xs ws b) 31#32
/-- The flat index a block ends with. -/
def outIdx : Vec F S1024 .i32 :=
  k0_pay5 (base i) (row7 i w x2 xs ws b r) (msk7 w x2 xs ws b) (bst7 w x2 xs ws b) 31#32
/-- The distance a block ends with. -/
def outErr : Vec F S1024 .f32 := k0_pay6 (bst7 w x2 xs ws b)
end

end Cert.KernelIdeal.Hand

end
-- ==== Proof.KernelIdeal.Body.lean ====
/- The kernel body's triple: what it leaves in its outputs and its scratch, from what it finds there. -/
module

public import proofs.«01_k».proof.Proof.KernelIdeal.Scan
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The second branch's condition: the slab is the first. -/
abbrev cond2 (i : grid0.Coords) : Prop :=
  (Scalar.cmpi .ne (Scalar.extui (Scalar.cmpi .eq (BitVec.ofNat 32 (i 1).val) 0#32)) 0#32) = 1#1

/-- The slab of squared weight norms a point reads from the scratch that keeps them all. -/
def slab (i : grid0.Coords) (g : Vec F S1024x1 .f32) : Vec F S256x1 .f32 :=
  VecWindow.window g (k0_off2 i) S256x1.size (k0_off2_inb i)

/-- The scratch of squared weight norms with one slab put in. -/
def putSlab (i : grid0.Coords) (g : Vec F S1024x1 .f32) (v : Vec F S256x1 .f32) : Vec F S1024x1 .f32 :=
  VecWindow.put g (k0_off1 i) S256x1.size v

/-- The norms are stored where they are read. -/
theorem off1_eq_off2 (i : grid0.Coords) : k0_off1 i = k0_off2 i := rfl

section
variable (i : grid0.Coords) (x : Vec F S1024x256 .f32) (w : Vec F S256x256 .f32)
  (g : Vec F S1024x1 .f32) (x2 : Vec F S1024x256 .f32) (xs : Vec F S1x1024 .f32) (b : Vec F S8x1024 .f32)
  (r : Vec F S8x1024 .i32)

/-- The norms' scratch after the first branch: the first block's points fill their slab. -/
def gAt : Vec F S1024x1 .f32 := if k0_cond1 i = 1#1 then putSlab i g (k0_pay8 w) else g
/-- The slab of norms the scan reads. -/
def wsAt : Vec F S256x1 .f32 := if k0_cond1 i = 1#1 then k0_pay8 w else slab i g
/-- The four scratch arrays the first slab of a block resets. -/
def x2At : Vec F S1024x256 .f32 := if cond2 i then k0_pay9 x else x2
/-- The squared norms of the rows after the second branch. -/
def xsAt : Vec F S1x1024 .f32 := if cond2 i then k0_pay10 x else xs
/-- The best distances after the second branch. -/
def bAt : Vec F S8x1024 .f32 := if cond2 i then k0_pay11 else b
/-- The best groups after the second branch. -/
def rAt : Vec F S8x1024 .i32 := if cond2 i then k0_pay12 else r
end

/-! Loads of a whole buffer, and of a buffer just stored whole. -/

/-- Loading a whole block of rows gives its contents. -/
theorem ld_1024x256 {a : Memref sig .tc .vmem S1024x256 .f32} (h : a.IsWhole) (v : Vec F S1024x256 .f32) :
    a.view.readAt (Elt F) (Rect.unit (s := S1024x256) ![0, 0] (no_index S1024x256.size) inb_S1024x256_S1024x256_0_0).toLoadRect (h.unread v) = v :=
  (View.readAt_full _ _ _).trans (h.read_unread v)
/-- Loading a block of rows just stored whole gives what was stored. -/
theorem cov_1024x256 (a : Memref sig .tc .vmem S1024x256 .f32) (v : Vec F S1024x256 .f32) :
    a.view.readCov [(⟨Rect.unit (s := S1024x256) ![0, 0] (no_index S1024x256.size) inb_S1024x256_S1024x256_0_0, v⟩ : View.Piece (Elt F) S1024x256 .f32)]
      (Rect.unit (s := S1024x256) ![0, 0] (no_index S1024x256.size) inb_S1024x256_S1024x256_0_0).toLoadRect = v :=
  View.readCov_cons_toLoadRect a.view (Rect.unit (s := S1024x256) ![0, 0] S1024x256.size inb_S1024x256_S1024x256_0_0) v []
/-- Loading a whole slab of weights gives its contents. -/
theorem ld_256x256 {a : Memref sig .tc .vmem S256x256 .f32} (h : a.IsWhole) (v : Vec F S256x256 .f32) :
    a.view.readAt (Elt F) (Rect.unit (s := S256x256) ![0, 0] (no_index S256x256.size) inb_S256x256_S256x256_0_0).toLoadRect (h.unread v) = v :=
  (View.readAt_full _ _ _).trans (h.read_unread v)
/-- Loading the rows' squared norms gives their contents. -/
theorem ld_1x1024 {a : Memref sig .tc .vmem S1x1024 .f32} (h : a.IsWhole) (v : Vec F S1x1024 .f32) :
    a.view.readAt (Elt F) (Rect.unit (s := S1x1024) ![0, 0] (no_index S1x1024.size) inb_S1x1024_S1x1024_0_0).toLoadRect (h.unread v) = v :=
  (View.readAt_full _ _ _).trans (h.read_unread v)
/-- Loading the rows' squared norms just stored gives what was stored. -/
theorem cov_1x1024 (a : Memref sig .tc .vmem S1x1024 .f32) (v : Vec F S1x1024 .f32) :
    a.view.readCov [(⟨Rect.unit (s := S1x1024) ![0, 0] (no_index S1x1024.size) inb_S1x1024_S1x1024_0_0, v⟩ : View.Piece (Elt F) S1x1024 .f32)]
      (Rect.unit (s := S1x1024) ![0, 0] (no_index S1x1024.size) inb_S1x1024_S1x1024_0_0).toLoadRect = v :=
  View.readCov_cons_toLoadRect a.view (Rect.unit (s := S1x1024) ![0, 0] S1x1024.size inb_S1x1024_S1x1024_0_0) v []
/-- Loading the best distances gives their contents. -/
theorem ld_8x1024 {a : Memref sig .tc .vmem S8x1024 .f32} (h : a.IsWhole) (v : Vec F S8x1024 .f32) :
    a.view.readAt (Elt F) (Rect.unit (s := S8x1024) ![0, 0] (no_index S8x1024.size) inb_S8x1024_S8x1024_0_0).toLoadRect (h.unread v) = v :=
  (View.readAt_full _ _ _).trans (h.read_unread v)
/-- Loading the best distances just stored gives what was stored. -/
theorem cov_8x1024 (a : Memref sig .tc .vmem S8x1024 .f32) (v : Vec F S8x1024 .f32) :
    a.view.readCov [(⟨Rect.unit (s := S8x1024) ![0, 0] (no_index S8x1024.size) inb_S8x1024_S8x1024_0_0, v⟩ : View.Piece (Elt F) S8x1024 .f32)]
      (Rect.unit (s := S8x1024) ![0, 0] (no_index S8x1024.size) inb_S8x1024_S8x1024_0_0).toLoadRect = v :=
  View.readCov_cons_toLoadRect a.view (Rect.unit (s := S8x1024) ![0, 0] S8x1024.size inb_S8x1024_S8x1024_0_0) v []
/-- Loading the best groups gives their contents. -/
theorem ld_8x1024_int {a : Memref sig .tc .vmem S8x1024 .i32} (h : a.IsWhole) (v : Vec F S8x1024 .i32) :
    a.view.readAt (Elt F) (Rect.unit (s := S8x1024) ![0, 0] (no_index S8x1024.size) inb_S8x1024_S8x1024_0_0).toLoadRect (h.unread v) = v :=
  (View.readAt_full _ _ _).trans (h.read_unread v)
/-- Loading the best groups just stored gives what was stored. -/
theorem cov_8x1024_int (a : Memref sig .tc .vmem S8x1024 .i32) (v : Vec F S8x1024 .i32) :
    a.view.readCov [(⟨Rect.unit (s := S8x1024) ![0, 0] (no_index S8x1024.size) inb_S8x1024_S8x1024_0_0, v⟩ : View.Piece (Elt F) S8x1024 .i32)]
      (Rect.unit (s := S8x1024) ![0, 0] (no_index S8x1024.size) inb_S8x1024_S8x1024_0_0).toLoadRect = v :=
  View.readCov_cons_toLoadRect a.view (Rect.unit (s := S8x1024) ![0, 0] S8x1024.size inb_S8x1024_S8x1024_0_0) v []
/-- Loading a slab of norms gives that part of the scratch. -/
theorem ld_slab {a : Memref sig .tc .vmem S1024x1 .f32} (h : a.IsWhole) (i : grid0.Coords) (g : Vec F S1024x1 .f32) :
    a.view.readAt (Elt F) (Rect.unit (s := S1024x1) (k0_off2 i) (no_index S256x1.size) (k0_off2_inb i)).toLoadRect (h.unread g) =
      slab i g :=
  (View.readAt_unit _ _ _ rfl (k0_off2_inb i)).trans (congrArg (fun z => VecWindow.window z _ _ _) (h.read_unread g))
/-- Loading a slab of norms just stored gives what was stored. -/
theorem cov_slab (a : Memref sig .tc .vmem S1024x1 .f32) (i : grid0.Coords)
    (inb : ∀ a, k0_off1 i a + S256x1.size a ≤ S1024x1.size a) (v : Vec F S256x1 .f32) :
    a.view.readCov [(⟨Rect.unit (s := S1024x1) (k0_off1 i) (no_index S256x1.size) inb, v⟩ : View.Piece (Elt F) S1024x1 .f32)]
      (Rect.unit (s := S1024x1) (k0_off2 i) (no_index S256x1.size) (k0_off2_inb i)).toLoadRect = v :=
  View.readCov_cons_toLoadRect a.view (Rect.unit (s := S1024x1) (k0_off1 i) S256x1.size inb) v []

set_option maxHeartbeats 4000000 in
/-- The body's triple. From any contents of the windows and of the scratch, the body ends with its inputs as they
    were, the norms' slab filled at the first block's points, the block's scratch reset at the first slab, the best
    distances and groups brought up to date, and both outputs stored at the last slab. -/
theorem body_triple (c : Dev nD) (i : grid0.Coords)
    (arg2 : Memref sig .tc .vmem S1024x256 .f32) (harg2 : arg2.IsWhole)
    (arg3 : Memref sig .tc .vmem S256x256 .f32) (harg3 : arg3.IsWhole)
    (arg4 : Memref sig .tc .vmem S1024 .i32) (harg4 : arg4.IsWhole)
    (arg5 : Memref sig .tc .vmem S1024 .f32) (harg5 : arg5.IsWhole)
    (arg6 : Memref sig .tc .vmem S1024x1 .f32) (harg6 : arg6.IsWhole)
    (arg7 : Memref sig .tc .vmem S1024x256 .f32) (harg7 : arg7.IsWhole)
    (arg8 : Memref sig .tc .vmem S1x1024 .f32) (harg8 : arg8.IsWhole)
    (arg9 : Memref sig .tc .vmem S8x1024 .f32) (harg9 : arg9.IsWhole)
    (arg10 : Memref sig .tc .vmem S8x1024 .i32) (harg10 : arg10.IsWhole)
    (x : Vec F S1024x256 .f32) (w : Vec F S256x256 .f32) (o4 : Vec F S1024 .i32) (o5 : Vec F S1024 .f32)
    (g : Vec F S1024x1 .f32) (x2 : Vec F S1024x256 .f32) (xs : Vec F S1x1024 .f32) (b : Vec F S8x1024 .f32)
    (r : Vec F S8x1024 .i32) (hx : cond2 i → ¬ k0_cond3 i = 1#1)
    (E : Set ℕ) (K : PUnit → sProp 𝕄) :
    iprop(owns (c : Thread nD τ) arg2 fullShare x ∗ owns (c : Thread nD τ) arg3 fullShare w
        ∗ owns (c : Thread nD τ) arg4 fullShare o4 ∗ owns (c : Thread nD τ) arg5 fullShare o5
        ∗ owns (c : Thread nD τ) arg6 fullShare g ∗ owns (c : Thread nD τ) arg7 fullShare x2
        ∗ owns (c : Thread nD τ) arg8 fullShare xs ∗ owns (c : Thread nD τ) arg9 fullShare b
        ∗ owns (c : Thread nD τ) arg10 fullShare r
        ∗ (iprop(owns (c : Thread nD τ) arg2 fullShare x ∗ owns (c : Thread nD τ) arg3 fullShare w
            ∗ owns (c : Thread nD τ) arg4 fullShare
                (if k0_cond3 i = 1#1 then outIdx i w (x2At i x x2) (xsAt i x xs) (wsAt i w g) (bAt i b) (rAt i r) else o4)
            ∗ owns (c : Thread nD τ) arg5 fullShare
                (if k0_cond3 i = 1#1 then outErr w (x2At i x x2) (xsAt i x xs) (wsAt i w g) (bAt i b) else o5)
            ∗ owns (c : Thread nD τ) arg6 fullShare (gAt i w g) ∗ owns (c : Thread nD τ) arg7 fullShare (x2At i x x2)
            ∗ owns (c : Thread nD τ) arg8 fullShare (xsAt i x xs)
            ∗ owns (c : Thread nD τ) arg9 fullShare (newBest w (x2At i x x2) (xsAt i x xs) (wsAt i w g) (bAt i b))
            ∗ owns (c : Thread nD τ) arg10 fullShare
                (newRow i w (x2At i x x2) (xsAt i x xs) (wsAt i w g) (bAt i b) (rAt i r)))
          -∗ K ⟨⟩))
      ⊢ wp frame (wpE (defs₀ (F := F)) Variants.none c none) E (cc0__bmu_block_kernel i arg2 harg2 arg3 harg3 arg4 harg4 arg5 harg5 arg6 harg6 arg7 harg7 arg8 harg8 arg9 harg9 arg10 harg10) K := by
  simp only [cc0__bmu_block_kernel_eq_skeleton]; unfold cc0__bmu_block_kernel_skel
  simp only [k0_part1_eq_skeleton, k0_part2_eq_skeleton, k0_part3_eq_skeleton, k0_part4_eq_skeleton, k0_part5_eq_skeleton, k0_part6_eq_skeleton, k0_part7_eq_skeleton]
  unfold owns gAt wsAt x2At xsAt bAt rAt
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  by_cases h1 : k0_cond1 i = 1#1 <;> by_cases h2 : cond2 i <;> by_cases h3 : k0_cond3 i = 1#1
  all_goals try exact absurd h3 (hx h2)
  all_goals
    first | simp only [if_neg (show ¬ (k0_cond1 i = 1#1) from h1)] | simp only [if_pos (show k0_cond1 i = 1#1 from h1)]
    first | simp only [if_neg (show ¬ (cond2 i) from h2)] | simp only [if_pos (show cond2 i from h2)]
    first | simp only [if_neg (show ¬ (k0_cond3 i = 1#1) from h3)] | simp only [if_pos (show k0_cond3 i = 1#1 from h3)]
    sl_exec (disch := first | sl_exact h1 | sl_exact h2 | sl_exact h3)
    sl_step
    iapply Hk
    isplitl [H2]; · iexists _; isplitr; swap; · iexact H2
                    ipureintro; exact hf2
    isplitl [H3]; · iexists _; isplitr; swap; · iexact H3
                    ipureintro; exact hf3
    isplitl [H4]
    · iexists _; isplitr; swap; · iexact H4
      ipureintro; first | with_reducible exact hf4 | (sl_unfold_run_names; simp only [ld_1024x256, cov_1024x256, ld_256x256, ld_1x1024, cov_1x1024, ld_8x1024, cov_8x1024, ld_8x1024_int, cov_8x1024_int, ld_slab, cov_slab]; refine (View.read_writes_full _ _ _ _ _).trans ?_; simp only [newBest, newRow, outIdx, outErr, bst1, msk1, row1, bst2, msk2, row2, bst3, msk3, row3, bst4, msk4, row4, bst5, msk5, row5, bst6, msk6, row6, bst7, msk7, row7, cross])
    isplitl [H5]
    · iexists _; isplitr; swap; · iexact H5
      ipureintro; first | with_reducible exact hf5 | (sl_unfold_run_names; simp only [ld_1024x256, cov_1024x256, ld_256x256, ld_1x1024, cov_1x1024, ld_8x1024, cov_8x1024, ld_8x1024_int, cov_8x1024_int, ld_slab, cov_slab]; refine (View.read_writes_full _ _ _ _ _).trans ?_; simp only [newBest, newRow, outIdx, outErr, bst1, msk1, row1, bst2, msk2, row2, bst3, msk3, row3, bst4, msk4, row4, bst5, msk5, row5, bst6, msk6, row6, bst7, msk7, row7, cross])
    isplitl [H6]
    · iexists _; isplitr; swap; · iexact H6
      ipureintro; first | with_reducible exact hf6 | (sl_unfold_run_names; simp only [ld_256x256]; exact (View.read_writes_cons_put _ _ _ _ _ rfl).trans (congrArg (fun z => VecWindow.put z _ _ _) hf6))
    isplitl [H7]
    · iexists _; isplitr; swap; · iexact H7
      ipureintro; first | with_reducible exact hf7 | (sl_unfold_run_names; simp only [ld_1024x256]; exact View.read_writes_full _ _ _ _ _)
    isplitl [H8]
    · iexists _; isplitr; swap; · iexact H8
      ipureintro; first | with_reducible exact hf8 | (sl_unfold_run_names; simp only [ld_1024x256]; exact View.read_writes_full _ _ _ _ _)
    isplitl [H9]
    · iexists _; isplitr; swap; · iexact H9
      ipureintro; sl_unfold_run_names; simp only [ld_1024x256, cov_1024x256, ld_256x256, ld_1x1024, cov_1x1024, ld_8x1024, cov_8x1024, ld_8x1024_int, cov_8x1024_int, ld_slab, cov_slab]; refine (View.read_writes_full _ _ _ _ _).trans ?_; simp only [newBest, newRow, outIdx, outErr, bst1, msk1, row1, bst2, msk2, row2, bst3, msk3, row3, bst4, msk4, row4, bst5, msk5, row5, bst6, msk6, row6, bst7, msk7, row7, cross]
    iexists _; isplitr; swap; · iexact H10
    ipureintro; sl_unfold_run_names; simp only [ld_1024x256, cov_1024x256, ld_256x256, ld_1x1024, cov_1x1024, ld_8x1024, cov_8x1024, ld_8x1024_int, cov_8x1024_int, ld_slab, cov_slab]; refine (View.read_writes_full _ _ _ _ _).trans ?_; simp only [newBest, newRow, outIdx, outErr, bst1, msk1, row1, bst2, msk2, row2, bst3, msk3, row3, bst4, msk4, row4, bst5, msk5, row5, bst6, msk6, row6, bst7, msk7, row7, cross]

end Cert.KernelIdeal.Hand

end
-- ==== Proof.KernelIdeal.State.lean ====
/- The scratch between grid points: the branch conditions in closed form, what each point leaves in the scratch,
   and the slabs of squared weight norms filled so far. -/
module

public import proofs.«01_k».proof.Proof.KernelIdeal.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions, by the point's number -/

/-- The grid has 16 points. -/
theorem N_eq : cfg0.N = 16 := N_0

/-- A point's block of rows. -/
theorem coord0 (t : Fin cfg0.N) : (grid0.coords t 0).val = t.val / 4 % 4 :=
  Pipeline.Grid.coords_val (G := grid0) (S := 4) (B := 4) t 0 (by decide) rfl
/-- A point's slab of units. -/
theorem coord1 (t : Fin cfg0.N) : (grid0.coords t 1).val = t.val % 4 :=
  (Pipeline.Grid.coords_val (G := grid0) (S := 1) (B := 4) t 1 (by decide) rfl).trans (by rw [Nat.div_one])

/-- The first branch is taken at the first block's points. -/
theorem hcond1 (t : Fin cfg0.N) : k0_cond1 (grid0.coords t) = 1#1 ↔ t.val < 4 := by
  have ht : t.val < 16 := Nat.lt_of_lt_of_eq t.isLt N_eq
  simp only [k0_cond1, coord0]
  word_cmp
/-- The second branch is taken at each block's first slab. -/
theorem hcond2 (t : Fin cfg0.N) : cond2 (grid0.coords t) ↔ t.val % 4 = 0 := by
  have ht : t.val < 16 := Nat.lt_of_lt_of_eq t.isLt N_eq
  simp only [cond2, coord1]
  word_cmp
/-- The third branch is taken at each block's last slab. -/
theorem hcond3 (t : Fin cfg0.N) : k0_cond3 (grid0.coords t) = 1#1 ↔ t.val % 4 = 3 := by
  have ht : t.val < 16 := Nat.lt_of_lt_of_eq t.isLt N_eq
  simp only [k0_cond3, coord1]
  word_cmp

/-- Every point reads the inputs' block. -/
theorem live0 (t : Fin cfg0.N) : cfg0.idle 0 (grid0.coords t) = false := rfl
/-- Every point reads the weights' slab. -/
theorem live1 (t : Fin cfg0.N) : cfg0.idle 1 (grid0.coords t) = false := rfl
/-- Before a block's last slab the indices' block is not touched, -/
theorem idle2 (t : Fin cfg0.N) (h : ¬ k0_cond3 (grid0.coords t) = 1#1) : cfg0.idle 2 (grid0.coords t) = true := by
  show (!(k0_cond3 (grid0.coords t) == 1#1)) = true
  simp [h]
/-- and neither is the roots' block. -/
theorem idle3 (t : Fin cfg0.N) (h : ¬ k0_cond3 (grid0.coords t) = 1#1) : cfg0.idle 3 (grid0.coords t) = true := by
  show (!(k0_cond3 (grid0.coords t) == 1#1)) = true
  simp [h]
/-- At a block's last slab the indices' block is written, -/
theorem live2 (t : Fin cfg0.N) (h : k0_cond3 (grid0.coords t) = 1#1) : cfg0.idle 2 (grid0.coords t) = false := by
  show (!(k0_cond3 (grid0.coords t) == 1#1)) = false
  simp [h]
/-- and so is the roots' block. -/
theorem live3 (t : Fin cfg0.N) (h : k0_cond3 (grid0.coords t) = 1#1) : cfg0.idle 3 (grid0.coords t) = false := by
  show (!(k0_cond3 (grid0.coords t) == 1#1)) = false
  simp [h]
/-- Before a block's last slab the indices' block is not copied out, -/
theorem noflush2 (t : Fin cfg0.N) (h : ¬ k0_cond3 (grid0.coords t) = 1#1) : (cfg0.win 2).flush t = false :=
  Bool.eq_false_iff.mpr fun hf => h ((hcond3 t).mpr ((flush0_2 t).mp hf))
/-- and neither is the roots' block. -/
theorem noflush3 (t : Fin cfg0.N) (h : ¬ k0_cond3 (grid0.coords t) = 1#1) : (cfg0.win 3).flush t = false :=
  Bool.eq_false_iff.mpr fun hf => h ((hcond3 t).mpr ((flush0_3 t).mp hf))

/-! ## The slabs of squared weight norms -/

/-- The point of the first block that reads the same slab of weights. -/
def slabPt (t : Fin cfg0.N) : Fin cfg0.N := ⟨t.val % 4, lt_of_le_of_lt (Nat.mod_le _ _) t.isLt⟩

/-- Where a point's slab of norms begins. -/
theorem off_eq (t : Fin cfg0.N) : k0_off2 (grid0.coords t) = ![256 * (t.val % 4), 0] := by
  have ht : t.val % 4 < 4 := Nat.mod_lt _ (by decide)
  simp only [k0_off2, coord1]
  generalize t.val % 4 = n at ht
  obtain rfl | rfl | rfl | rfl : n = 0 ∨ n = 1 ∨ n = 2 ∨ n = 3 := by omega
  all_goals rfl

/-- The norms of the slab a point reads. -/
def normsOf (c : Dev nD) (t : Fin cfg0.N) : Vec F S256x1 .f32 := k0_pay8 (iblk m c 1 (slabPt t))

/-- The slabs filled before point `n`. -/
def Filled (c : Dev nD) (n : ℕ) (g : Vec F S1024x1 .f32) : Prop :=
  ∀ s : Fin cfg0.N, s.val < 4 → s.val < n → slab (grid0.coords s) g = k0_pay8 (iblk m c 1 s)

/-- Points with the same slab number read the same part of the norms. -/
theorem slab_congr (s t : Fin cfg0.N) (h : s.val % 4 = t.val % 4) (g : Vec F S1024x1 .f32) :
    slab (grid0.coords s) g = slab (grid0.coords t) g := by
  have e : k0_off2 (grid0.coords s) = k0_off2 (grid0.coords t) := by rw [off_eq, off_eq, h]
  unfold slab
  generalize k0_off2_inb (grid0.coords s) = i1
  generalize k0_off2_inb (grid0.coords t) = i2
  revert i1 i2
  rw [e]
  intro _ _; rfl

/-- The slab the scan reads is always the norms of the point's own slab of weights. -/
theorem wsAt_eq (c : Dev nD) (t : Fin cfg0.N) (g : Vec F S1024x1 .f32) (h : Filled m c t.val g) :
    wsAt (grid0.coords t) (iblk m c 1 t) g = normsOf m c t := by
  unfold wsAt normsOf
  by_cases h1 : t.val < 4
  · rw [if_pos ((hcond1 t).mpr h1), show slabPt t = t from Fin.ext (Nat.mod_eq_of_lt h1)]
  · have hs : (slabPt t).val = t.val % 4 := rfl
    rw [if_neg (fun h => h1 ((hcond1 t).mp h)), slab_congr t (slabPt t) (by rw [hs]; omega)]
    exact h (slabPt t) (by omega) (by omega)

/-- After a point the scratch has one more slab filled. -/
theorem filled_next (c : Dev nD) (t : Fin cfg0.N) (g : Vec F S1024x1 .f32) (h : Filled m c t.val g) :
    Filled m c (t.val + 1) (gAt (grid0.coords t) (iblk m c 1 t) g) := by
  intro s hs hn
  unfold gAt
  by_cases h1 : t.val < 4
  · rw [if_pos ((hcond1 t).mpr h1)]
    unfold slab putSlab
    rcases Nat.lt_or_ge s.val t.val with hlt | hge
    · rw [VecWindow.window_put_of_disjoint _ _ _ _ _ _ _ 0]
      · exact h s hs hlt
      · left
        rw [off1_eq_off2, off_eq, off_eq]
        show 256 * (s.val % 4) + 256 ≤ 256 * (t.val % 4)
        omega
    · obtain rfl : s = t := Fin.ext (by omega)
      exact VecWindow.window_put_same _ _ _ _ _
  · rw [if_neg (fun h => h1 ((hcond1 t).mp h))]
    exact h s hs (by omega)

/-! ## The block's scratch -/

/-- What a block keeps between its slabs: its rows doubled and negated, its rows' squared norms, the best distances
    and the best groups. -/
structure St (F : FTy → Type) where
  x2 : Vec F S1024x256 .f32
  xs : Vec F S1x1024 .f32
  b : Vec F S8x1024 .f32
  r : Vec F S8x1024 .i32

/-- The scratch as a block's first slab resets it. -/
def reset (c : Dev nD) (t : Fin cfg0.N) : St F :=
  ⟨k0_pay9 (iblk m c 0 t), k0_pay10 (iblk m c 0 t), k0_pay11, k0_pay12⟩

/-- One slab's scan. -/
def step (c : Dev nD) (t : Fin cfg0.N) (s : St F) : St F :=
  ⟨s.x2, s.xs, newBest (iblk m c 1 t) s.x2 s.xs (normsOf m c t) s.b,
    newRow (grid0.coords t) (iblk m c 1 t) s.x2 s.xs (normsOf m c t) s.b s.r⟩

/-- The scratch after each point. -/
def stAt (c : Dev nD) : (n : ℕ) → n < cfg0.N → St F
  | 0, h => step m c ⟨0, h⟩ (reset m c ⟨0, h⟩)
  | n + 1, h => step m c ⟨n + 1, h⟩ (if (n + 1) % 4 = 0 then reset m c ⟨n + 1, h⟩ else stAt c n (by omega))

/-- The scratch a point's scan starts from. -/
def enter (c : Dev nD) (t : Fin cfg0.N) : St F :=
  if t.val % 4 = 0 then reset m c t else stAt m c (t.val - 1) (by omega)

/-- The scratch after a point is one step from the scratch that the point enters with. -/
theorem stAt_eq (c : Dev nD) (t : Fin cfg0.N) : stAt m c t.val t.isLt = step m c t (enter m c t) := by
  obtain ⟨n, hn⟩ := t
  cases n with
  | zero => rfl
  | succ n => rfl

end Cert.KernelIdeal.Hand

end
-- ==== Proof.KernelIdeal.Frame.lean ====
/- The pipeline's proof data, the body obligation, the launch and the frame. -/
module

public import proofs.«01_k».proof.Proof.KernelIdeal.State
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant: the scratch operands between points -/

abbrev scr6 : Memref sig .tc .vmem S1024x1 .f32 := Memref.whole cc0_scratch0
abbrev scr7 : Memref sig .tc .vmem S1024x256 .f32 := Memref.whole cc0_scratch1
abbrev scr8 : Memref sig .tc .vmem S1x1024 .f32 := Memref.whole cc0_scratch2
abbrev scr9 : Memref sig .tc .vmem S8x1024 .f32 := Memref.whole cc0_scratch3
abbrev scr10 : Memref sig .tc .vmem S8x1024 .i32 := Memref.whole cc0_scratch4

/-- The launch's own invariant, with the scratch as buffers owned at some contents. -/
theorem launch_inv (c : Dev nD) :
    (Pipeline.ΦA spec0 c : sProp 𝕄)
      = iprop(iprop((∃ d, owns (c : Thread nD τ) scr6 fullShare d) ∗ (∃ d, owns (c : Thread nD τ) scr7 fullShare d)
          ∗ (∃ d, owns (c : Thread nD τ) scr8 fullShare d) ∗ (∃ d, owns (c : Thread nD τ) scr9 fullShare d)
          ∗ (∃ d, owns (c : Thread nD τ) scr10 fullShare d)) ∗ (∃ r, prngReg c r)) := by
  unfold Pipeline.ΦA; rw [scopedRest0_eq]; simp only [scr6, scr7, scr8, scr9, scr10, owns_whole]; try rfl

/-- The invariant before point `n`: at first anything, then the norms' slabs filled so far and the scratch as the
    point before left it. -/
def Inv (c : Dev nD) : (n : ℕ) → n ≤ cfg0.N → sProp 𝕄
  | 0, _ => Pipeline.ΦA spec0 c
  | n + 1, hn => iprop((∃ g, ⌜Filled m c (n + 1) g⌝ ∗ owns (c : Thread nD τ) scr6 fullShare g)
      ∗ owns (c : Thread nD τ) scr7 fullShare (stAt m c n hn).x2 ∗ owns (c : Thread nD τ) scr8 fullShare (stAt m c n hn).xs
      ∗ owns (c : Thread nD τ) scr9 fullShare (stAt m c n hn).b ∗ owns (c : Thread nD τ) scr10 fullShare (stAt m c n hn).r
      ∗ (∃ r, prngReg c r))

/-- What a point's body finds in the scratch: norms filled so far, and contents that, after the second branch, are
    those the scan starts from. -/
def Found (c : Dev nD) (t : Fin cfg0.N) : sProp 𝕄 :=
  iprop(∃ g x2 xs b r, ⌜Filled m c t.val g ∧ x2At (grid0.coords t) (iblk m c 0 t) x2 = (enter m c t).x2
      ∧ xsAt (grid0.coords t) (iblk m c 0 t) xs = (enter m c t).xs ∧ bAt (grid0.coords t) b = (enter m c t).b
      ∧ rAt (F := F) (grid0.coords t) r = (enter m c t).r⌝
    ∗ owns (c : Thread nD τ) scr6 fullShare g ∗ owns (c : Thread nD τ) scr7 fullShare x2
    ∗ owns (c : Thread nD τ) scr8 fullShare xs ∗ owns (c : Thread nD τ) scr9 fullShare b
    ∗ owns (c : Thread nD τ) scr10 fullShare r ∗ (∃ r, prngReg c r))

/-- At a block's first slab the second branch resets the scratch, whatever it held. -/
theorem enter_reset (c : Dev nD) (t : Fin cfg0.N) (h : t.val % 4 = 0) (x2 xs b r) :
    x2At (grid0.coords t) (iblk m c 0 t) x2 = (enter m c t).x2
      ∧ xsAt (grid0.coords t) (iblk m c 0 t) xs = (enter m c t).xs ∧ bAt (grid0.coords t) b = (enter m c t).b
      ∧ rAt (F := F) (grid0.coords t) r = (enter m c t).r := by
  have h2 := (hcond2 t).mpr h
  unfold x2At xsAt bAt rAt enter
  simp only [if_pos h2, if_pos h]
  refine ⟨?_, ?_, ?_, ?_⟩ <;> first | rfl | trivial

/-- At another slab it leaves the scratch as the point before did. -/
theorem enter_keep (c : Dev nD) (t : Fin cfg0.N) (h : ¬ t.val % 4 = 0) (hp : t.val - 1 < cfg0.N) :
    x2At (grid0.coords t) (iblk m c 0 t) (stAt m c (t.val - 1) hp).x2 = (enter m c t).x2
      ∧ xsAt (grid0.coords t) (iblk m c 0 t) (stAt m c (t.val - 1) hp).xs = (enter m c t).xs
      ∧ bAt (grid0.coords t) (stAt m c (t.val - 1) hp).b = (enter m c t).b
      ∧ rAt (F := F) (grid0.coords t) (stAt m c (t.val - 1) hp).r = (enter m c t).r := by
  have h2 : ¬ cond2 (grid0.coords t) := fun h' => h ((hcond2 t).mp h')
  unfold x2At xsAt bAt rAt enter
  simp only [if_neg h2, if_neg h]
  refine ⟨?_, ?_, ?_, ?_⟩ <;> first | rfl | trivial

/-- The invariant before a point gives what the body finds. -/
theorem inv_found (c : Dev nD) (t : Fin cfg0.N) : Inv m c t.val (Nat.le_of_lt t.isLt) ⊢ Found m c t := by
  unfold Found
  obtain ⟨n, hn⟩ := t
  cases n with
  | zero =>
    rw [show Inv m c (⟨0, hn⟩ : Fin cfg0.N).val (Nat.le_of_lt hn) = Pipeline.ΦA spec0 c from rfl, launch_inv]
    iintro ⟨⟨⟨%g, H6⟩, ⟨%x2, H7⟩, ⟨%xs, H8⟩, ⟨%b, H9⟩, ⟨%r, H10⟩⟩, Hg⟩
    iexists g; iexists x2; iexists xs; iexists b; iexists r
    isplitr
    · ipureintro
      exact ⟨fun s _ h => absurd h (Nat.not_lt_zero _), enter_reset m c ⟨0, hn⟩ rfl x2 xs b r⟩
    isplitl [H6]; · iexact H6
    isplitl [H7]; · iexact H7
    isplitl [H8]; · iexact H8
    isplitl [H9]; · iexact H9
    isplitl [H10]; · iexact H10
    iexact Hg
  | succ n =>
    dsimp only [Inv]
    iintro ⟨⟨%g, %hg, H6⟩, H7, H8, H9, H10, Hg⟩
    iexists g; iexists _; iexists _; iexists _; iexists _
    isplitr
    swap
    · isplitl [H6]; · iexact H6
      isplitl [H7]; · iexact H7
      isplitl [H8]; · iexact H8
      isplitl [H9]; · iexact H9
      isplitl [H10]; · iexact H10
      iexact Hg
    ipureintro
    by_cases h : (n + 1) % 4 = 0
    · exact ⟨hg, enter_reset m c ⟨n + 1, hn⟩ h _ _ _ _⟩
    · exact ⟨hg, enter_keep m c ⟨n + 1, hn⟩ h _⟩

/-! ## The proof data -/

/-- What the body leaves in the outputs' blocks at a block's last slab. -/
def idxAt (c : Dev nD) (t : Fin cfg0.N) : Vec F S1024 .i32 :=
  outIdx (grid0.coords t) (iblk m c 1 t) (enter m c t).x2 (enter m c t).xs (normsOf m c t) (enter m c t).b (enter m c t).r
/-- The roots' block that the body leaves at a block's last slab. -/
def errAt (c : Dev nD) (t : Fin cfg0.N) : Vec F S1024 .f32 :=
  outErr (iblk m c 1 t) (enter m c t).x2 (enter m c t).xs (normsOf m c t) (enter m c t).b

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => idxAt m c t
    | ⟨3, _⟩ => errAt m c t
  Φ t := Inv m c t.val (Nat.le_of_lt_succ t.isLt)
  q _ := fullShare
  owed _ := 0

/-- The proof data's arrays are the memory's. -/
theorem A_eq (c : Dev nD) (w : Fin cfg0.W) : (dats m 0 c).A w = V m c (Pipeline.arrRef spec0 w) := by
  dsimp only [dats]
/-- The invariant before a point. -/
theorem inv_at (c : Dev nD) (t : Fin cfg0.N) :
    (dats m 0 c).Φ t.castSucc = Inv m c t.val (Nat.le_of_lt t.isLt) := by
  dsimp only [dats]; exact Pipeline.Dat.Φ_castSucc (Inv m c) t
/-- The body leaves the inputs' block as it was. -/
theorem after0 (c : Dev nD) (t : Fin cfg0.N) : (dats m 0 c).after 0 t = iblk m c 0 t := by dsimp only [dats]
/-- The body leaves the weights' slab as it was. -/
theorem after1 (c : Dev nD) (t : Fin cfg0.N) : (dats m 0 c).after 1 t = iblk m c 1 t := by dsimp only [dats]
/-- What the body leaves in the indices' block. -/
theorem after2 (c : Dev nD) (t : Fin cfg0.N) : (dats m 0 c).after 2 t = idxAt m c t := by dsimp only [dats]
/-- What the body leaves in the roots' block. -/
theorem after3 (c : Dev nD) (t : Fin cfg0.N) : (dats m 0 c).after 3 t = errAt m c t := by dsimp only [dats]
/-- The body finds the inputs' block of the point. -/
theorem before0 (c : Dev nD) (t : Fin cfg0.N) (d) : (dats m 0 c).before 0 t d = iblk m c 0 t :=
  before0_0_of m (dats m 0 c) (A_eq m c 0) (after0 m c) t d
/-- The body finds the weights' slab of the point. -/
theorem before1 (c : Dev nD) (t : Fin cfg0.N) (d) : (dats m 0 c).before 1 t d = iblk m c 1 t :=
  before0_1_of m (dats m 0 c) (A_eq m c 1) (after1 m c) t d

/-! ## The body obligation -/

abbrev mem0 (t : Fin cfg0.N) : Memref sig .tc .vmem S1024x256 .f32 := win0_0.stage (cfg0.slots t 0)
abbrev mem1 (t : Fin cfg0.N) : Memref sig .tc .vmem S256x256 .f32 := win0_1.stage (cfg0.slots t 1)
abbrev mem2 (t : Fin cfg0.N) : Memref sig .tc .vmem S1024 .i32 := win0_2.stage (cfg0.slots t 2)
abbrev mem3 (t : Fin cfg0.N) : Memref sig .tc .vmem S1024 .f32 := win0_3.stage (cfg0.slots t 3)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

/-- The invariant after a point, buffer by buffer. -/
theorem inv_succ (c : Dev nD) (t : Fin cfg0.N) : (dats m 0 c).Φ t.succ =
    iprop((∃ g, ⌜Filled m c (t.val + 1) g⌝ ∗ owns (c : Thread nD τ) scr6 fullShare g)
      ∗ owns (c : Thread nD τ) scr7 fullShare (enter m c t).x2 ∗ owns (c : Thread nD τ) scr8 fullShare (enter m c t).xs
      ∗ owns (c : Thread nD τ) scr9 fullShare (newBest (iblk m c 1 t) (enter m c t).x2 (enter m c t).xs (normsOf m c t) (enter m c t).b)
      ∗ owns (c : Thread nD τ) scr10 fullShare (newRow (grid0.coords t) (iblk m c 1 t) (enter m c t).x2 (enter m c t).xs (normsOf m c t) (enter m c t).b (enter m c t).r)
      ∗ (∃ r, prngReg c r)) := by
  rw [show (dats m 0 c).Φ t.succ = Inv m c (t.val + 1) t.isLt from rfl]
  dsimp only [Inv]
  rw [stAt_eq m c t]
  rfl

set_option maxHeartbeats 1600000 in
/-- The body at any point, by its triple. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl, inv_succ, inv_at]
  refine (sep_mono_left (inv_found m c t)).trans ?_
  unfold Found
  rw [show (dats m 0 c).leavesExact 0 t = owns (c : Thread nD τ) (mem0 t) fullShare ((dats m 0 c).after 0 t) from by
    unfold Dat.leavesExact; rw [live0 t], after0]
  rw [show (dats m 0 c).leavesExact 1 t = owns (c : Thread nD τ) (mem1 t) fullShare ((dats m 0 c).after 1 t) from by
    unfold Dat.leavesExact; rw [live1 t], after1]
  have hx : cond2 (grid0.coords t) → ¬ k0_cond3 (grid0.coords t) = 1#1 := fun h2 h3 => by
    have := (hcond2 t).mp h2; have := (hcond3 t).mp h3; omega
  by_cases h3 : k0_cond3 (grid0.coords t) = 1#1
  · rw [show (dats m 0 c).leavesExact 2 t = owns (c : Thread nD τ) (mem2 t) fullShare ((dats m 0 c).after 2 t) from by
      unfold Dat.leavesExact; rw [live2 t h3], after2]
    rw [show (dats m 0 c).leavesExact 3 t = owns (c : Thread nD τ) (mem3 t) fullShare ((dats m 0 c).after 3 t) from by
      unfold Dat.leavesExact; rw [live3 t h3], after3]
    iintro ⟨⟨%g, %x2, %xs, %b, %r, %hf, S6, S7, S8, S9, S10, Hg⟩, Ho, ⟨%d0, H0⟩, ⟨%d1, H1⟩, ⟨%d2, H2⟩, ⟨%d3, H3⟩⟩
    obtain ⟨hg, e1, e2, e3, e4⟩ := hf
    have T := body_triple (F := F) c (grid0.coords t) (mem0 t) (hstage0_0 ((cfg0.slots t 0).cast nbuf0_0)) (mem1 t) (hstage0_1 ((cfg0.slots t 1).cast nbuf0_1))
      (mem2 t) (hstage0_2 ((cfg0.slots t 2).cast nbuf0_2)) (mem3 t) (hstage0_3 ((cfg0.slots t 3).cast nbuf0_3))
      scr6 (Memref.isWhole_whole _) scr7 (Memref.isWhole_whole _) scr8 (Memref.isWhole_whole _) scr9 (Memref.isWhole_whole _) scr10 (Memref.isWhole_whole _)
      (iblk m c 0 t) (iblk m c 1 t) ((dats m 0 c).before 2 t d2) ((dats m 0 c).before 3 t d3) g x2 xs b r hx Set.univ
    rw [e1, e2, e3, e4, wsAt_eq m c t g hg, if_pos h3, if_pos h3] at T
    iapply T
    isplitl [H0]; · iexact H0
    isplitl [H1]; · iexact H1
    isplitl [H2]; · iexact H2
    isplitl [H3]; · iexact H3
    isplitl [S6]; · iexact S6
    isplitl [S7]; · iexact S7
    isplitl [S8]; · iexact S8
    isplitl [S9]; · iexact S9
    isplitl [S10]; · iexact S10
    iintro ⟨H0, H1, H2, H3, S6, S7, S8, S9, S10⟩
    isplitl [S6 S7 S8 S9 S10 Hg]
    · isplitl [S6]
      · iexists _; isplitr; swap; · iexact S6
        ipureintro; exact filled_next m c t g hg
      isplitl [S7]; · iexact S7
      isplitl [S8]; · iexact S8
      isplitl [S9]; · iexact S9
      isplitl [S10]; · iexact S10
      iexact Hg
    isplitl [Ho]; · iexact Ho
    isplitl [H0]; · iexact H0
    isplitl [H1]; · iexact H1
    isplitl [H2]; · iexact H2
    iexact H3
  · rw [Dat.leavesExact_idle (dats m 0 c) 2 t (idle2 t h3) (noflush2 t h3), Dat.leavesExact_idle (dats m 0 c) 3 t (idle3 t h3) (noflush3 t h3)]
    iintro ⟨⟨%g, %x2, %xs, %b, %r, %hf, S6, S7, S8, S9, S10, Hg⟩, Ho, ⟨%d0, H0⟩, ⟨%d1, H1⟩, ⟨%d2, H2⟩, ⟨%d3, H3⟩⟩
    obtain ⟨hg, e1, e2, e3, e4⟩ := hf
    have T := body_triple (F := F) c (grid0.coords t) (mem0 t) (hstage0_0 ((cfg0.slots t 0).cast nbuf0_0)) (mem1 t) (hstage0_1 ((cfg0.slots t 1).cast nbuf0_1))
      (mem2 t) (hstage0_2 ((cfg0.slots t 2).cast nbuf0_2)) (mem3 t) (hstage0_3 ((cfg0.slots t 3).cast nbuf0_3))
      scr6 (Memref.isWhole_whole _) scr7 (Memref.isWhole_whole _) scr8 (Memref.isWhole_whole _) scr9 (Memref.isWhole_whole _) scr10 (Memref.isWhole_whole _)
      (iblk m c 0 t) (iblk m c 1 t) ((dats m 0 c).before 2 t d2) ((dats m 0 c).before 3 t d3) g x2 xs b r hx Set.univ
    rw [e1, e2, e3, e4, wsAt_eq m c t g hg, if_neg h3, if_neg h3] at T
    iapply T
    isplitl [H0]; · iexact H0
    isplitl [H1]; · iexact H1
    isplitl [H2]; · iexact H2
    isplitl [H3]; · iexact H3
    isplitl [S6]; · iexact S6
    isplitl [S7]; · iexact S7
    isplitl [S8]; · iexact S8
    isplitl [S9]; · iexact S9
    isplitl [S10]; · iexact S10
    iintro ⟨H0, H1, H2, H3, S6, S7, S8, S9, S10⟩
    isplitl [S6 S7 S8 S9 S10 Hg]
    · isplitl [S6]
      · iexists _; isplitr; swap; · iexact S6
        ipureintro; exact filled_next m c t g hg
      isplitl [S7]; · iexact S7
      isplitl [S8]; · iexact S8
      isplitl [S9]; · iexact S9
      isplitl [S10]; · iexact S10
      iexact Hg
    isplitl [Ho]; · iexact Ho
    isplitl [H0]; · iexact H0
    isplitl [H1]; · iexact H1
    isplitl [H2]; · iexists _; iexact H2
    iexists _; iexact H3

/-- The launch's body at a point is the printed body on the point's blocks. -/
theorem body_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- The launch's invariant is the one before the first point, -/
theorem inv_in (c : Dev nD) : Pipeline.ΦA spec0 c ⊢ (dats m 0 c).Φ 0 := by
  rw [show (dats m 0 c).Φ 0 = Pipeline.ΦA spec0 c from rfl]

/-- and the one after the last point gives it back. -/
theorem inv_out (c : Dev nD) : (dats m 0 c).Φ (Fin.last cfg0.N) ⊢ Pipeline.ΦA spec0 c := by
  have hN : cfg0.N = 15 + 1 := N_0
  have e : ∀ n (h : n ≤ cfg0.N), n = 15 + 1 → Inv m c n h ⊢ Pipeline.ΦA spec0 c := by
    intro n h hn
    subst hn
    rw [launch_inv]
    dsimp only [Inv]
    iintro ⟨⟨%g, %hg, H6⟩, H7, H8, H9, H10, Hg⟩
    isplitl [H6 H7 H8 H9 H10]
    · isplitl [H6]; · iexists _; iexact H6
      isplitl [H7]; · iexists _; iexact H7
      isplitl [H8]; · iexists _; iexact H8
      isplitl [H9]; · iexists _; iexact H9
      iexists _; iexact H10
    iexact Hg
  exact e _ _ ((Fin.val_last _).trans hN)

/-! ## The run and the frame -/

set_option backward.isDefEq.respectTransparency.types false in
set_option maxHeartbeats 800000 in
/-- The launch: every array of the pipeline ends as the proof data says, every counter at zero. -/
theorem launch : θ_run defs (onTc (τ := τ) (main (F := F))) (s₀ m ρ) (fun r => (Pipeline.FramePost cfgs (dats m) 0 (Pipeline.afterTail₀ cfgs (dats m) 0 (V0 m) [hostOps1, hostOps1_1, hostOps1_2, hostOps1_3, hostOps1_4])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hin := inv_in m) (hout := inv_out m)

/-- The launch without its counters. -/
theorem run : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4])) :=
  (θ_run defs _ _).mono (fun _ h => h.1) (launch m ρ)

/-- The arguments end unchanged and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run m ρ)) ((θ_run defs _ _).mono (fun _ h => h.2) (launch m ρ))

end Cert.KernelIdeal.Hand

end
-- ==== Proof.Search.Distance.lean ====
/- The squared distance of two rows of 256 finite numbers, in the two ways of writing it that the programs use. -/
module

public import Idealize.ShloMosaic.PureOps.Ideal
public import Idealize.ShloMosaic.Lib.Pointwise

@[expose] public section

noncomputable section

namespace Cert.Search

open Idealize.ShloMosaic

/-- A finite number. -/
def Finite (x : EReal) : Prop := ∃ r : ℝ, x = (r : EReal)

/-- A number whose absolute value is below `⊤` is finite. -/
theorem finite_of_abs_lt {x : EReal} (h : max x (-x) < ⊤) : Finite x := by
  induction x with
  | bot => simp at h
  | top => simp at h
  | coe r => exact ⟨r, rfl⟩

/-- The sum of finitely many reals is their sum among the extended reals. -/
theorem coe_sum {n : ℕ} (f : Fin n → ℝ) : ((∑ l, f l : ℝ) : EReal) = ∑ l, (f l : EReal) := by
  induction n with
  | zero => simp
  | succ n ih => rw [Fin.sum_univ_succ, Fin.sum_univ_succ, EReal.coe_add, ih]

/-- The distance as the kernel sums it: the row's square, the product with the row times minus two, the unit's square. -/
def kdist (x w : Fin 256 → EReal) : EReal :=
  (∑ l, x l * x l) + (∑ l, w l * (Ideal.ofBits .f32 0xC0000000#32 * x l)) + ∑ l, w l * w l

/-- The distance as the reference writes it, clipped at zero. -/
def rdist (x w : Fin 256 → EReal) : EReal :=
  max ((∑ l, x l * x l) - Ideal.ofBits .f32 0x40000000#32 * (∑ l, x l * w l) + ∑ l, w l * w l) 0

/-- The word of the float 2 is the number 2. -/
theorem ofBits_two : Ideal.ofBits .f32 0x40000000#32 = ((2 : ℝ) : EReal) := by
  simp [Ideal.ofBits, Ideal.ieee, -EReal.coe_mul]; norm_num

/-- The word of the float -2 is the number -2. -/
theorem ofBits_neg_two : Ideal.ofBits .f32 0xC0000000#32 = ((-2 : ℝ) : EReal) := by
  simp [Ideal.ofBits, Ideal.ieee, -EReal.coe_mul, -EReal.coe_neg]; norm_num

/-- The word of the infinite float is the greatest number. -/
theorem ofBits_top : Ideal.ofBits .f32 0x7F800000#32 = ⊤ := by simp [Ideal.ofBits, Ideal.ieee]

/-- For finite rows both are the same number, which is finite and at least zero. -/
theorem dist_eq {x w : Fin 256 → EReal} (hx : ∀ l, Finite (x l)) (hw : ∀ l, Finite (w l)) :
    rdist x w = kdist x w ∧ kdist x w < ⊤ ∧ 0 ≤ kdist x w := by
  choose a ha using hx
  choose b hb using hw
  obtain rfl : x = fun l => (a l : EReal) := funext ha
  obtain rfl : w = fun l => (b l : EReal) := funext hb
  have ek : kdist (fun l => (a l : EReal)) (fun l => (b l : EReal)) = ((∑ l, (a l - b l) * (a l - b l) : ℝ) : EReal) := by
    unfold kdist
    rw [ofBits_neg_two]
    simp only [← EReal.coe_mul, ← coe_sum, ← EReal.coe_add]
    congr 1
    rw [← Finset.sum_add_distrib, ← Finset.sum_add_distrib]
    exact Finset.sum_congr rfl fun l _ => by ring
  have h0 : (0 : ℝ) ≤ ∑ l, (a l - b l) * (a l - b l) := Finset.sum_nonneg fun l _ => mul_self_nonneg _
  have er : rdist (fun l => (a l : EReal)) (fun l => (b l : EReal)) = ((∑ l, (a l - b l) * (a l - b l) : ℝ) : EReal) := by
    unfold rdist
    rw [ofBits_two]
    simp only [← EReal.coe_mul, ← coe_sum, ← EReal.coe_add, ← EReal.coe_sub]
    rw [max_eq_left]
    · congr 1
      rw [Finset.mul_sum, ← Finset.sum_sub_distrib, ← Finset.sum_add_distrib]
      exact Finset.sum_congr rfl fun l _ => by ring
    · rw [← EReal.coe_zero, EReal.coe_le_coe_iff, Finset.mul_sum, ← Finset.sum_sub_distrib, ← Finset.sum_add_distrib]
      exact Finset.sum_nonneg fun l _ => by nlinarith [mul_self_nonneg (a l - b l)]
  rw [ek, er]
  exact ⟨rfl, EReal.coe_lt_top _, by rw [← EReal.coe_zero, EReal.coe_le_coe_iff]; exact h0⟩

end Cert.Search

end
-- ==== Proof.Equal.Finite.lean ====
/- What the precondition says of one element. -/
module

public import proofs.«01_k».proof.Proof.Gen.Pre_finite
public import proofs.«01_k».proof.Proof.Search.Distance
public import Idealize.ShloMosaic.Lib.Pointwise

@[expose] public section

set_option maxRecDepth 16384

noncomputable section

namespace Cert.Equal

open Idealize.ShloMosaic Cert.Pre_finite Cert.Search

/-- A comparison that says one holds. -/
theorem lt_of_olt {a b : EReal} (h : Ideal.cmp .olt a b = 1#1) : a < b := by
  by_contra hn
  simp [Ideal.cmp, hn] at h

variable (x : FVec Ideal S4096x256 .f32) (w : FVec Ideal S32x32x256 .f32)

/-- Where the first part is all ones, every input is finite. -/
theorem input_finite (h : (Cert.Pre_finite.fn (F := Ideal) x w).1 = fun _ => 1#1) (p : Fin 4096) (l : Fin 256) :
    Finite (x (ix2 p l)) := by
  have e := congrFun h (ix2 p l)
  refine finite_of_abs_lt (lt_of_olt ?_)
  rw [← ofBits_top]
  exact e

/-- Where the second part is all ones, every weight is finite. -/
theorem weight_finite (h : (Cert.Pre_finite.fn (F := Ideal) x w).2 = fun _ => 1#1) (a b : Fin 32) (l : Fin 256) :
    Finite (w (ix3 a b l)) := by
  have e := congrFun h (ix3 a b l)
  refine finite_of_abs_lt (lt_of_olt ?_)
  rw [← ofBits_top]
  exact e

end Cert.Equal

end
-- ==== Proof.KernelIdeal.Blocks.lean ====
/- What the launch's input blocks hold, in the arguments' rows. -/
module

public import proofs.«01_k».proof.Proof.KernelIdeal.State
public import proofs.«01_k».proof.Proof.Search.Distance
public import Idealize.ShloMosaic.Lib.Claim
public import Idealize.ShloMosaic.Lib.StableHlo.RunRead
public import Idealize.ShloMosaic.Lib.Pipeline.ValueKit

@[expose] public section

set_option maxRecDepth 16384

noncomputable section

namespace Cert.KernelIdeal.Hand

open Idealize.ShloMosaic Idealize.ShloMosaic.TcCoe Cert.KernelIdeal.Gen Cert.Search

/-- Row `p` of the inputs. -/
def xrow (x : Vec Ideal S4096x256 .f32) (p : ℕ) : Fin 256 → EReal :=
  fun l => x (ix2 ⟨p % 4096, Nat.mod_lt _ (by decide)⟩ l)

/-- Unit `k` of the map, counted row by row. -/
def wrow (w : Vec Ideal S32x32x256 .f32) (k : ℕ) : Fin 256 → EReal :=
  fun l => w (ix3 ⟨k / 32 % 32, Nat.mod_lt _ (by decide)⟩ ⟨k % 32, Nat.mod_lt _ (by decide)⟩ l)

variable (m : (ℓ : Loc nD τ sig) → Buf (Elt Ideal) ℓ) (c : Dev nD)

/-- The inputs' block at a point is its block of rows, the weights' is its slab. -/
theorem index0 (t : Fin cfg0.N) : win0_0.index t = ![t.val / 4, 0] ∧ win0_1.index t = ![t.val % 4, 0] := by
  revert t; decide +kernel

/-- The inputs' block at a point: 1024 rows from the block's first. -/
theorem iblk0_at (t : Fin cfg0.N) (a : Fin 1024) (l : Fin 256) :
    iblk m c 0 t (ix2 a l) = xrow (m ((c : Thread nD τ).loc main_arg0)) (1024 * (t.val / 4) + a.val) l := by
  have ht : t.val < 16 := Nat.lt_of_lt_of_eq t.isLt N_eq
  rw [xrow]
  blk_ext [iblk, V_main_arg0, index0 t]

/-- The weights as the launch reads them: the map's units in one list. -/
theorem V_main_v0 : V m c main_v0
    = shapeCast S1024x256 (m ((c : Thread nD τ).loc main_arg1)) shapeCasts_S32x32x256_S1024x256 := by
  show StableHlo.after hostOps0 (fun b => m (c, b)) (Proc.devRef .tc main_v0) = _
  after_reads_simp
  rfl

/-- The unit at row `n` of the list is the map's unit `n`. -/
theorem list_at (w : Vec Ideal S32x32x256 .f32) (n : ℕ) (hn : n < 1024) (l : Fin 256) :
    shapeCast S1024x256 w shapeCasts_S32x32x256_S1024x256 (ix2 ⟨n, hn⟩ l) = wrow w n l := by
  rw [wrow]
  pointwise
  have e : n / 32 % 32 = n / 32 := Nat.mod_eq_of_lt (by omega)
  simp only [e]

/-- A window of a list of units at a point of the launch. -/
theorem window1_at (A : Vec Ideal S1024x256 .f32) (t : Fin cfg0.N) (b l : Fin 256) (h : 256 * (t.val % 4) + b.val < 1024) :
    (win0_1.blk t).view.read (Elt Ideal) A (ix2 b l) = A (ix2 ⟨256 * (t.val % 4) + b.val, h⟩ l) := by
  have ht : t.val < 16 := Nat.lt_of_lt_of_eq t.isLt N_eq
  blk_ext [index0 t]

/-- The weights' block at a point: 256 units from the slab's first. -/
theorem iblk1_at (t : Fin cfg0.N) (b : Fin 256) (l : Fin 256) :
    iblk m c 1 t (ix2 b l) = wrow (m ((c : Thread nD τ).loc main_arg1)) (256 * (t.val % 4) + b.val) l := by
  have h : 256 * (t.val % 4) + b.val < 1024 := by omega
  rw [← list_at _ _ h, ← V_main_v0 m c]
  exact window1_at (V m c main_v0) t b l h

end Cert.KernelIdeal.Hand

end
-- ==== Proof.KernelIdeal.Groups.lean ====
/- The slab's 32 row groups as one recursion: the best distance and the best group after any number of groups. -/
module

public import proofs.«01_k».proof.Proof.KernelIdeal.Scan
public import Idealize.ShloMosaic.Lib.Pointwise

@[expose] public section

set_option maxRecDepth 16384

noncomputable section

namespace Cert.KernelIdeal.Hand

open Idealize.ShloMosaic Cert.KernelIdeal Cert.KernelIdeal.Gen

variable {F : FTy → Type} [FloatOps F]

/-- Eight rows from row `8 n` lie inside a slab's products. -/
theorem slices_products (n : ℕ) : S256x1024.Slices ![8 * (n % 32), 0] S8x1024 := by
  refine ⟨rfl, fun a => ?_⟩
  fin_cases a
  · show 8 * (n % 32) + 8 ≤ 256; omega
  · show 0 + 1024 ≤ 1024; omega

/-- Eight rows from row `8 n` lie inside a slab's squared norms. -/
theorem slices_norms (n : ℕ) : S256x1.Slices ![8 * (n % 32), 0] S8x1 := by
  refine ⟨rfl, fun a => ?_⟩
  fin_cases a
  · show 8 * (n % 32) + 8 ≤ 256; omega
  · show 0 + 1 ≤ 1; omega

section
variable (i : grid0.Coords) (w : Vec F S256x256 .f32) (x2 : Vec F S1024x256 .f32) (xs : Vec F S1x1024 .f32)
  (ws : Vec F S256x1 .f32) (b : Vec F S8x1024 .f32) (r : Vec F S8x1024 .i32)

/-- The distances of the slab's group `n`. -/
def grp (cr : FVec F S256x1024 .f32) (n : ℕ) : FVec F S8x1024 .f32 :=
  addf (addf (broadcastTo S8x1024 xs broadcasts_S1x1024_S8x1024)
      (extractStridedSlice S8x1024 ![8 * (n % 32), 0] cr (slices_products n)))
    (broadcastTo S8x1024 (extractStridedSlice S8x1 ![8 * (n % 32), 0] ws (slices_norms n)) broadcasts_S8x1_S8x1024)

/-- The best distances after `n` groups. -/
def sbest (cr : FVec F S256x1024 .f32) : ℕ → FVec F S8x1024 .f32
  | 0 => b
  | n + 1 => minimumf (sbest cr n) (grp xs ws cr n)

/-- The best groups after `n` groups. -/
def srow (cr : FVec F S256x1024 .f32) : ℕ → IVec S8x1024 32
  | 0 => r
  | n + 1 => select (cmpf .olt (grp xs ws cr n) (sbest xs ws b cr n))
      (broadcast S8x1024 (Scalar.addi (base i) (BitVec.ofNat 32 n))) (srow cr n)

/-- The comparison that group `n` makes with the best before it. -/
def smask (cr : FVec F S256x1024 .f32) (n : ℕ) : IVec S8x1024 1 := cmpf .olt (grp xs ws cr n) (sbest xs ws b cr n)

/-- The body's best distances at its cut 1 are those after 2 groups. -/
theorem bst1_eq : bst1 w x2 xs ws b = sbest xs ws b (cross w x2) 2 := rfl
/-- The body's best distances at its cut 2 are those after 7 groups. -/
theorem bst2_eq : bst2 w x2 xs ws b = sbest xs ws b (cross w x2) 7 := by unfold bst2; rw [bst1_eq]; rfl
/-- The body's best distances at its cut 3 are those after 12 groups. -/
theorem bst3_eq : bst3 w x2 xs ws b = sbest xs ws b (cross w x2) 12 := by unfold bst3; rw [bst2_eq]; rfl
/-- The body's best distances at its cut 4 are those after 17 groups. -/
theorem bst4_eq : bst4 w x2 xs ws b = sbest xs ws b (cross w x2) 17 := by unfold bst4; rw [bst3_eq]; rfl
/-- The body's best distances at its cut 5 are those after 22 groups. -/
theorem bst5_eq : bst5 w x2 xs ws b = sbest xs ws b (cross w x2) 22 := by unfold bst5; rw [bst4_eq]; rfl
/-- The body's best distances at its cut 6 are those after 27 groups. -/
theorem bst6_eq : bst6 w x2 xs ws b = sbest xs ws b (cross w x2) 27 := by unfold bst6; rw [bst5_eq]; rfl
/-- The body's best distances at its cut 7 are those after 32 groups. -/
theorem bst7_eq : bst7 w x2 xs ws b = sbest xs ws b (cross w x2) 32 := by unfold bst7; rw [bst6_eq]; rfl

/-- The body's comparison at its cut 1 is that of group 1. -/
theorem msk1_eq : msk1 w x2 xs ws b = smask xs ws b (cross w x2) 1 := rfl
/-- The body's comparison at its cut 2 is that of group 6. -/
theorem msk2_eq : msk2 w x2 xs ws b = smask xs ws b (cross w x2) 6 := by unfold msk2; rw [bst1_eq]; rfl
/-- The body's comparison at its cut 3 is that of group 11. -/
theorem msk3_eq : msk3 w x2 xs ws b = smask xs ws b (cross w x2) 11 := by unfold msk3; rw [bst2_eq]; rfl
/-- The body's comparison at its cut 4 is that of group 16. -/
theorem msk4_eq : msk4 w x2 xs ws b = smask xs ws b (cross w x2) 16 := by unfold msk4; rw [bst3_eq]; rfl
/-- The body's comparison at its cut 5 is that of group 21. -/
theorem msk5_eq : msk5 w x2 xs ws b = smask xs ws b (cross w x2) 21 := by unfold msk5; rw [bst4_eq]; rfl
/-- The body's comparison at its cut 6 is that of group 26. -/
theorem msk6_eq : msk6 w x2 xs ws b = smask xs ws b (cross w x2) 26 := by unfold msk6; rw [bst5_eq]; rfl
/-- The body's comparison at its cut 7 is that of group 31. -/
theorem msk7_eq : msk7 w x2 xs ws b = smask xs ws b (cross w x2) 31 := by unfold msk7; rw [bst6_eq]; rfl

/-- The body's best groups at its cut 1 are those after 1 groups. -/
theorem row1_eq : row1 i w x2 xs ws b r = srow i xs ws b r (cross w x2) 1 := rfl
/-- The body's best groups at its cut 2 are those after 6 groups. -/
theorem row2_eq : row2 i w x2 xs ws b r = srow i xs ws b r (cross w x2) 6 := by
  unfold row2; rw [row1_eq, msk1_eq, bst1_eq]; rfl
/-- The body's best groups at its cut 3 are those after 11 groups. -/
theorem row3_eq : row3 i w x2 xs ws b r = srow i xs ws b r (cross w x2) 11 := by
  unfold row3; rw [row2_eq, msk2_eq, bst2_eq]; rfl
/-- The body's best groups at its cut 4 are those after 16 groups. -/
theorem row4_eq : row4 i w x2 xs ws b r = srow i xs ws b r (cross w x2) 16 := by
  unfold row4; rw [row3_eq, msk3_eq, bst3_eq]; rfl
/-- The body's best groups at its cut 5 are those after 21 groups. -/
theorem row5_eq : row5 i w x2 xs ws b r = srow i xs ws b r (cross w x2) 21 := by
  unfold row5; rw [row4_eq, msk4_eq, bst4_eq]; rfl
/-- The body's best groups at its cut 6 are those after 26 groups. -/
theorem row6_eq : row6 i w x2 xs ws b r = srow i xs ws b r (cross w x2) 26 := by
  unfold row6; rw [row5_eq, msk5_eq, bst5_eq]; rfl
/-- The body's best groups at its cut 7 are those after 31 groups. -/
theorem row7_eq : row7 i w x2 xs ws b r = srow i xs ws b r (cross w x2) 31 := by
  unfold row7; rw [row6_eq, msk6_eq, bst6_eq]; rfl

/-- A cast of a shape to itself changes nothing. -/
theorem shapeCast_self {φ : Type} (s : Shape) (v : s.Idx → φ) (h : s.ShapeCasts s) : shapeCast s v h = v := by
  funext j
  unfold shapeCast
  exact congrArg v (by simp)

/-- The best distances a slab leaves are those after its 32 groups. -/
theorem newBest_eq : newBest w x2 xs ws b = sbest xs ws b (cross w x2) 32 := by
  unfold newBest; rw [bst7_eq]; exact shapeCast_self _ _ _

/-- The best groups before the last cast, after 32 groups. -/
theorem lastRow_eq : k0_pay1 (base i) (row7 i w x2 xs ws b r) (msk7 w x2 xs ws b) 31#32
    = srow i xs ws b r (cross w x2) 32 := by
  rw [row7_eq, msk7_eq]; rfl

/-- The best groups a slab leaves are those after its 32 groups. -/
theorem newRow_eq : newRow i w x2 xs ws b r = srow i xs ws b r (cross w x2) 32 := by
  unfold newRow k0_pay3; rw [lastRow_eq]; exact shapeCast_self _ _ _

end

end Cert.KernelIdeal.Hand

end
-- ==== Proof.Search.Scan.lean ====
/- The mathematics of the search for the nearest unit, free of any program: a scan that keeps the least value seen and
   where it was first seen, and the first least member of a family. -/
module

public import Idealize.ShloMosaic.PureOps.Ideal
public import Idealize.ShloMosaic.Lib.Pointwise

@[expose] public section

noncomputable section

namespace Cert.Search

open Idealize.ShloMosaic

/-- The least of the first `n` values, `⊤` of none. -/
def least (f : ℕ → EReal) : ℕ → EReal
  | 0 => ⊤
  | n + 1 => min (least f n) (f n)

/-- Where the least of the first `n` values is first seen, `0` if none is below `⊤`. -/
def place (f : ℕ → EReal) : ℕ → ℕ
  | 0 => 0
  | n + 1 => if f n < least f n then n else place f n

/-- The least of the first values is below each of them. -/
theorem least_le (f : ℕ → EReal) : ∀ (n q : ℕ), q < n → least f n ≤ f q
  | 0, q, h => absurd h (Nat.not_lt_zero q)
  | n + 1, q, h => by
    rcases Nat.lt_succ_iff_lt_or_eq.mp h with h | rfl
    · exact (min_le_left _ _).trans (least_le f n q h)
    · exact min_le_right _ _

/-- Of values below `⊤` the scan keeps the least and the first place that attains it. -/
theorem place_spec (f : ℕ → EReal) (hf : ∀ q, f q < ⊤) : ∀ n : ℕ, 0 < n →
    place f n < n ∧ least f n = f (place f n) ∧ ∀ q < place f n, least f n < f q
  | 0, h => absurd h (Nat.lt_irrefl 0)
  | n + 1, _ => by
    rcases Nat.eq_zero_or_pos n with rfl | hn
    · simp [place, least, hf]
    · obtain ⟨h1, h2, h3⟩ := place_spec f hf n hn
      by_cases h : f n < least f n
      · simp only [place, least, if_pos h, min_eq_right h.le]
        exact ⟨Nat.lt_succ_self n, trivial, fun q hq => h.trans_le (least_le f n q hq)⟩
      · simp only [place, least, if_neg h, min_eq_left (not_lt.mp h)]
        exact ⟨Nat.lt_succ_of_lt h1, h2, h3⟩

/-- `k` is the first place among the first `N` at which `D` is least. -/
def FirstLeast (D : ℕ → EReal) (N k : ℕ) : Prop :=
  k < N ∧ ∀ j < N, D k < D j ∨ (D k = D j ∧ k ≤ j)

/-- There is one first least place. -/
theorem FirstLeast.unique {D : ℕ → EReal} {N k l : ℕ} (hk : FirstLeast D N k) (hl : FirstLeast D N l) : k = l := by
  rcases hk.2 l hl.1 with h | ⟨h, h'⟩ <;> rcases hl.2 k hk.1 with g | ⟨g, g'⟩
  · exact absurd (h.trans g) (lt_irrefl _)
  · exact absurd (g ▸ h) (lt_irrefl _)
  · exact absurd (h ▸ g) (lt_irrefl _)
  · exact le_antisymm h' g'

/-- No place below the bound has a smaller value. -/
theorem FirstLeast.le {D : ℕ → EReal} {N k : ℕ} (hk : FirstLeast D N k) {j : ℕ} (hj : j < N) : D k ≤ D j := by
  rcases hk.2 j hj with h | ⟨h, _⟩
  · exact h.le
  · exact h.le

section
variable {D : ℕ → EReal} {Q K : ℕ} (hD : ∀ k, D k < ⊤) (hK : FirstLeast D (8 * Q) K)
include hD hK

/-- The least over the eight rows of the least in each row is the least of all. -/
theorem least_rows : Finset.fold min (⊤ : EReal) (fun g : Fin 8 => least (fun q => D (8 * q + g.val)) Q) Finset.univ = D K := by
  have hK1 := hK.1
  have hQ : 0 < Q := by omega
  apply le_antisymm
  · rw [Finset.fold_min_le]
    refine Or.inr ⟨⟨K % 8, by omega⟩, Finset.mem_univ _, ?_⟩
    refine (least_le _ Q (K / 8) (by omega)).trans (le_of_eq ?_)
    show D (8 * (K / 8) + K % 8) = D K
    congr 1; omega
  · rw [Finset.le_fold_min]
    refine ⟨le_top, fun g _ => ?_⟩
    obtain ⟨h1, h2, _⟩ := place_spec (fun q => D (8 * q + g.val)) (fun q => hD _) Q hQ
    rw [h2]
    have := g.isLt
    exact hK.le (by omega)

/-- The row of the first least place finds it, -/
theorem row_hit : least (fun q => D (8 * q + K % 8)) Q = D K ∧ 8 * place (fun q => D (8 * q + K % 8)) Q + K % 8 = K := by
  have hK1 := hK.1
  have hQ : 0 < Q := by omega
  obtain ⟨h1, h2, h3⟩ := place_spec (fun q => D (8 * q + K % 8)) (fun q => hD _) Q hQ
  have hle := least_le (fun q => D (8 * q + K % 8)) Q (K / 8) (by omega)
  have e : D (8 * (K / 8) + K % 8) = D K := by congr 1; omega
  have hge : D K ≤ D (8 * place (fun q => D (8 * q + K % 8)) Q + K % 8) := hK.le (by omega)
  have heq : least (fun q => D (8 * q + K % 8)) Q = D K := by
    apply le_antisymm
    · exact hle.trans (le_of_eq e)
    · rw [h2]; exact hge
  refine ⟨heq, ?_⟩
  have hp : K / 8 ≥ place (fun q => D (8 * q + K % 8)) Q := by
    by_contra hlt
    have := h3 (K / 8) (by omega)
    rw [heq] at this
    exact absurd (this.trans_le (le_of_eq e)) (lt_irrefl _)
  rcases hK.2 (8 * place (fun q => D (8 * q + K % 8)) Q + K % 8) (by omega) with h | ⟨_, h⟩
  · rw [← heq, h2] at h; exact absurd h (lt_irrefl _)
  · omega

/-- and no row finds an earlier one. -/
theorem row_miss (g : ℕ) (hg : g < 8) (h : least (fun q => D (8 * q + g)) Q = D K) :
    K ≤ 8 * place (fun q => D (8 * q + g)) Q + g := by
  have hK1 := hK.1
  have hQ : 0 < Q := by omega
  obtain ⟨h1, h2, _⟩ := place_spec (fun q => D (8 * q + g)) (fun q => hD _) Q hQ
  rcases hK.2 (8 * place (fun q => D (8 * q + g)) Q + g) (by omega) with h' | ⟨_, h'⟩
  · rw [← h, h2] at h'; exact absurd h' (lt_irrefl _)
  · exact h'

end

/-! ## Words -/

/-- A small number as a word is itself as an integer. -/
theorem toInt_ofNat {n : ℕ} (h : n < 2147483648) : (BitVec.ofNat 32 n).toInt = (n : ℤ) := by
  rw [BitVec.toInt_eq_toNat_of_lt]
  · rw [BitVec.toNat_ofNat, Nat.mod_eq_of_lt (by omega)]
  · rw [BitVec.toNat_ofNat, Nat.mod_eq_of_lt (by omega)]; omega

/-- The signed minimum of words is the minimum of their integers. -/
theorem toInt_minsi (x y : BitVec 32) : (IntOp.minsi x y).toInt = min x.toInt y.toInt := by
  unfold IntOp.minsi
  simp only [BitVec.slt_iff_toInt_lt, BitVec.sle_iff_toInt_le]
  split <;> omega

/-- The least flat number over the rows that attain the least value is the first least place. -/
theorem pick {D : ℕ → EReal} {Q K : ℕ} (hD : ∀ k, D k < ⊤) (hK : FirstLeast D (8 * Q) K) (hQ : Q ≤ 128) :
    Finset.fold IntOp.minsi (2147483647#32)
      (fun g : Fin 8 => if least (fun q => D (8 * q + g.val)) Q = D K then
          BitVec.ofNat 32 (8 * place (fun q => D (8 * q + g.val)) Q + g.val) else 1024#32) Finset.univ
      = BitVec.ofNat 32 K := by
  have hK1 := hK.1
  apply BitVec.eq_of_toInt_eq
  rw [toInt_ofNat (by omega)]
  rw [← Finset.fold_hom (op := IntOp.minsi) (op' := min) (m := BitVec.toInt) (fun x y => toInt_minsi x y)]
  apply le_antisymm
  · rw [Finset.fold_min_le]
    refine Or.inr ⟨⟨K % 8, by omega⟩, Finset.mem_univ _, ?_⟩
    obtain ⟨h1, h2⟩ := row_hit hD hK
    simp only []
    rw [if_pos h1, h2, toInt_ofNat (by omega)]
  · rw [Finset.le_fold_min]
    refine ⟨?_, fun g _ => ?_⟩
    · have : (2147483647#32 : BitVec 32).toInt = 2147483647 := by decide
      rw [this]; omega
    · split
      next h =>
        have hp := (place_spec (fun q => D (8 * q + g.val)) (fun q => hD _) Q (by omega)).1
        have := row_miss hD hK g.val g.isLt h
        have := g.isLt
        rw [toInt_ofNat (by omega)]
        omega
      next h =>
        have : (1024#32 : BitVec 32).toInt = 1024 := by decide
        rw [this]; omega

end Cert.Search

end
-- ==== Proof.KernelIdeal.Values.lean ====
/- What a block's scratch holds after any of its slabs, and what its last slab writes. -/
module

public import proofs.«01_k».proof.Proof.KernelIdeal.Blocks
public import proofs.«01_k».proof.Proof.KernelIdeal.Groups
public import proofs.«01_k».proof.Proof.KernelIdeal.Frame
public import proofs.«01_k».proof.Proof.Search.Scan

@[expose] public section

set_option maxRecDepth 16384

noncomputable section

namespace Cert.KernelIdeal.Hand

open Idealize.ShloMosaic Idealize.ShloMosaic.TcCoe Cert.KernelIdeal.Gen Cert.Search

variable (m : (ℓ : Loc nD τ sig) → Buf (Elt Ideal) ℓ) (c : Dev nD)

/-- The distance of input row `p` to unit `k`. -/
def dist (x : Vec Ideal S4096x256 .f32) (w : Vec Ideal S32x32x256 .f32) (p k : ℕ) : EReal := kdist (xrow x p) (wrow w k)

/-- The inputs and the map, as launched. -/
abbrev inX : Vec Ideal S4096x256 .f32 := m ((c : Thread nD τ).loc main_arg0)
abbrev inW : Vec Ideal S32x32x256 .f32 := m ((c : Thread nD τ).loc main_arg1)

/-- A scratch after `Q` groups of a block that begins at row `P`: for each row of the block and each of the eight places
    in a group, the least distance so far and the first group that has it. -/
structure Holds (P Q : ℕ) (s : St Ideal) : Prop where
  x2 : ∀ (a : Fin 1024) (l : Fin 256), s.x2 (ix2 a l) = Ideal.ofBits .f32 0xC0000000#32 * xrow (inX m c) (P + a.val) l
  xs : ∀ a : Fin 1024, s.xs (ix2 0 a) = ∑ l, xrow (inX m c) (P + a.val) l * xrow (inX m c) (P + a.val) l
  b : ∀ (g : Fin 8) (a : Fin 1024), s.b (ix2 g a) = least (fun q => dist (inX m c) (inW m c) (P + a.val) (8 * q + g.val)) Q
  r : ∀ (g : Fin 8) (a : Fin 1024), s.r (ix2 g a)
    = BitVec.ofNat 32 (place (fun q => dist (inX m c) (inW m c) (P + a.val) (8 * q + g.val)) Q)

/-- The reset scratch is that of no groups. -/
theorem reset_holds (t : Fin cfg0.N) : Holds m c (1024 * (t.val / 4)) 0 (reset m c t) where
  x2 a l := by
    show k0_pay9 (iblk m c 0 t) (ix2 a l) = _
    rw [← iblk0_at m c t a l]
    generalize iblk m c 0 t = x
    pointwise [k0_pay9]
  xs a := by
    show k0_pay10 (iblk m c 0 t) (ix2 0 a) = _
    simp only [← iblk0_at m c t a]
    generalize iblk m c 0 t = x
    pointwise [k0_pay10]
  b g a := by
    show k0_pay11 (F := Ideal) (ix2 g a) = _
    rw [least, ← ofBits_top]
    pointwise [k0_pay11]
  r g a := by
    show k0_pay12 (ix2 g a) = _
    rw [place]
    pointwise [k0_pay12]

/-- Group `n` of a slab holds the distances to the slab's units `8 n` to `8 n + 7`. -/
theorem grp_at (t : Fin cfg0.N) {P Q : ℕ} {s : St Ideal} (hs : Holds m c P Q s) (n : ℕ) (hn : n < 32) (g : Fin 8) (a : Fin 1024) :
    grp s.xs (normsOf m c t) (cross (iblk m c 1 t) s.x2) n (ix2 g a)
      = dist (inX m c) (inW m c) (P + a.val) (8 * (32 * (t.val % 4) + n) + g.val) := by
  have hw : ∀ l, iblk m c 1 t (ix2 ⟨8 * (n % 32) + g.val, by omega⟩ l) = wrow (inW m c) (8 * (32 * (t.val % 4) + n) + g.val) l := by
    intro l
    rw [iblk1_at]
    congr 1
    show 256 * (t.val % 4) + (8 * (n % 32) + g.val) = _
    omega
  have hv : ∀ l, iblk m c 1 (slabPt t) (ix2 ⟨8 * (n % 32) + g.val, by omega⟩ l)
      = wrow (inW m c) (8 * (32 * (t.val % 4) + n) + g.val) l := by
    intro l
    rw [iblk1_at]
    congr 1
    show 256 * (t.val % 4 % 4) + (8 * (n % 32) + g.val) = _
    omega
  unfold normsOf dist kdist
  simp only [← hs.xs, ← hs.x2]
  generalize iblk m c 1 t = w at hw ⊢
  generalize iblk m c 1 (slabPt t) = v at hv ⊢
  pointwise [grp, cross, k0_pay13, k0_pay7, k0_pay8]
  simp only [hw, hv]

/-- One slab's groups, one at a time. -/
theorem groups_at (t : Fin cfg0.N) {P : ℕ} {s : St Ideal} (hs : Holds m c P (32 * (t.val % 4)) s) (g : Fin 8) (a : Fin 1024) :
    ∀ n : ℕ, n ≤ 32 →
      sbest s.xs (normsOf m c t) s.b (cross (iblk m c 1 t) s.x2) n (ix2 g a)
          = least (fun q => dist (inX m c) (inW m c) (P + a.val) (8 * q + g.val)) (32 * (t.val % 4) + n)
      ∧ srow (grid0.coords t) s.xs (normsOf m c t) s.b s.r (cross (iblk m c 1 t) s.x2) n (ix2 g a)
          = BitVec.ofNat 32 (place (fun q => dist (inX m c) (inW m c) (P + a.val) (8 * q + g.val)) (32 * (t.val % 4) + n))
  | 0, _ => ⟨hs.b g a, hs.r g a⟩
  | n + 1, hn => by
    obtain ⟨ib, ir⟩ := groups_at t hs g a n (by omega)
    have hg := grp_at m c t hs n (by omega) g a
    have hb : Scalar.addi (base (grid0.coords t)) (BitVec.ofNat 32 n) = BitVec.ofNat 32 (32 * (t.val % 4) + n) := by
      show BitVec.ofNat 32 (grid0.coords t 1).val * 32#32 + BitVec.ofNat 32 n = _
      rw [coord1, BitVec.ofNat_add, Nat.mul_comm 32, BitVec.ofNat_mul]
    rw [show 32 * (t.val % 4) + (n + 1) = (32 * (t.val % 4) + n) + 1 from rfl, least, place]
    generalize cross (iblk m c 1 t) s.x2 = cr at *
    generalize normsOf m c t = ws at *
    refine ⟨?_, ?_⟩
    · pointwise [sbest]
      rw [ib, hg]
    · pointwise [srow]
      rw [ib, hg, ir, hb]
      split <;> rfl

/-- A slab's scan takes the scratch on by its 32 groups. -/
theorem step_holds (t : Fin cfg0.N) {P : ℕ} {s : St Ideal} (hs : Holds m c P (32 * (t.val % 4)) s) :
    Holds m c P (32 * (t.val % 4) + 32) (step m c t s) where
  x2 := hs.x2
  xs := hs.xs
  b g a := by
    show newBest _ _ _ _ _ (ix2 g a) = _
    rw [newBest_eq]
    exact (groups_at m c t hs g a 32 le_rfl).1
  r g a := by
    show newRow _ _ _ _ _ _ _ (ix2 g a) = _
    rw [newRow_eq]
    exact (groups_at m c t hs g a 32 le_rfl).2

/-- The scratch at a point, and as its scan starts. -/
theorem scratch_holds (n : ℕ) : ∀ h : n < cfg0.N,
    Holds m c (1024 * (n / 4)) (32 * (n % 4)) (enter m c ⟨n, h⟩)
      ∧ Holds m c (1024 * (n / 4)) (32 * (n % 4) + 32) (stAt m c n h) := by
  induction n with
  | zero =>
    intro h
    have e : Holds m c (1024 * (0 / 4)) (32 * (0 % 4)) (enter m c ⟨0, h⟩) := reset_holds m c ⟨0, h⟩
    exact ⟨e, (stAt_eq m c ⟨0, h⟩).symm ▸ step_holds m c ⟨0, h⟩ e⟩
  | succ n ih =>
    intro h
    have e : Holds m c (1024 * ((n + 1) / 4)) (32 * ((n + 1) % 4)) (enter m c ⟨n + 1, h⟩) := by
      by_cases h0 : (n + 1) % 4 = 0
      · have := reset_holds m c ⟨n + 1, h⟩
        rw [enter, if_pos h0, h0]
        exact this
      · have := (ih (by omega)).2
        rw [enter, if_neg h0, show (n + 1) / 4 = n / 4 by omega, show 32 * ((n + 1) % 4) = 32 * (n % 4) + 32 by omega]
        exact this
    exact ⟨e, (stAt_eq m c ⟨n + 1, h⟩).symm ▸ step_holds m c ⟨n + 1, h⟩ e⟩

section
variable (hD : ∀ p k, dist (inX m c) (inW m c) p k < ⊤) (t : Fin cfg0.N) (h3 : t.val % 4 = 3) (a : Fin 1024) {K : ℕ}
  (hK : FirstLeast (dist (inX m c) (inW m c) (1024 * (t.val / 4) + a.val)) 1024 K)
include h3

/-- The eight places' least distances, after the block's last slab. -/
theorem last_least (g : Fin 8) : sbest (enter m c t).xs (normsOf m c t) (enter m c t).b (cross (iblk m c 1 t) (enter m c t).x2) 32 (ix2 g a)
    = least (fun q => dist (inX m c) (inW m c) (1024 * (t.val / 4) + a.val) (8 * q + g.val)) 128 := by
  have h := (groups_at m c t (scratch_holds m c t.val t.isLt).1 g a 32 le_rfl).1
  rw [h3] at h
  exact h

/-- The eight places' first groups with the least distances, after the block's last slab. -/
theorem last_place (g : Fin 8) : srow (grid0.coords t) (enter m c t).xs (normsOf m c t) (enter m c t).b (enter m c t).r
      (cross (iblk m c 1 t) (enter m c t).x2) 32 (ix2 g a)
    = BitVec.ofNat 32 (place (fun q => dist (inX m c) (inW m c) (1024 * (t.val / 4) + a.val) (8 * q + g.val)) 128) := by
  have h := (groups_at m c t (scratch_holds m c t.val t.isLt).1 g a 32 le_rfl).2
  rw [h3] at h
  exact h

include hD hK

/-- A block's last slab writes, for each row, the number of the first nearest unit, -/
theorem idxAt_at : idxAt m c t (ix1 a) = BitVec.ofNat 32 K := by
  have hb := last_least m c t h3 a
  have hr := last_place m c t h3 a
  unfold idxAt outIdx
  rw [bst7_eq]
  unfold k0_pay5
  rw [lastRow_eq]
  generalize sbest (enter m c t).xs (normsOf m c t) (enter m c t).b (cross (iblk m c 1 t) (enter m c t).x2) 32 = b at hb ⊢
  generalize srow (grid0.coords t) (enter m c t).xs (normsOf m c t) (enter m c t).b (enter m c t).r
      (cross (iblk m c 1 t) (enter m c t).x2) 32 = r at hr ⊢
  pointwise [k0_pay4]
  rw [ofBits_top]
  simp only [hb, hr]
  rw [least_rows (hD _) hK]
  refine Eq.trans ?_ (pick (hD _) hK (by decide : 128 ≤ 128))
  refine congrArg (fun f => Finset.fold IntOp.minsi 2147483647#32 f Finset.univ) (funext fun g => ?_)
  rw [Nat.mul_comm 8 (place _ _), BitVec.ofNat_add, BitVec.ofNat_mul]
  rfl

/-- and the root of its distance. -/
theorem errAt_at : errAt m c t (ix1 a)
    = Ideal.sqrt (max (dist (inX m c) (inW m c) (1024 * (t.val / 4) + a.val) K) 0) := by
  have hb := last_least m c t h3 a
  unfold errAt outErr
  rw [bst7_eq]
  generalize sbest (enter m c t).xs (normsOf m c t) (enter m c t).b (cross (iblk m c 1 t) (enter m c t).x2) 32 = b at hb ⊢
  pointwise [k0_pay6, k0_pay4]
  rw [ofBits_top]
  simp only [hb]
  rw [least_rows (hD _) hK]
end

end Cert.KernelIdeal.Hand

end
-- ==== Proof.KernelIdeal.Arrays.lean ====
/- The launch's two result arrays, row by row. -/
module

public import proofs.«01_k».proof.Proof.KernelIdeal.Values

@[expose] public section

set_option maxRecDepth 16384

noncomputable section

namespace Cert.KernelIdeal.Hand

open Idealize.ShloMosaic Idealize.ShloMosaic.TcCoe Cert.KernelIdeal.Gen Cert.Search

variable (m : (ℓ : Loc nD τ sig) → Buf (Elt Ideal) ℓ) (c : Dev nD)

/-- The first nearest units' numbers, -/
def units (K : ℕ → ℕ) : Vec Ideal S4096 .i32 := fun i => BitVec.ofNat 32 (K (i 0).val)
/-- and the roots of the distances to them. -/
def roots (x : Vec Ideal S4096x256 .f32) (w : Vec Ideal S32x32x256 .f32) (K : ℕ → ℕ) : Vec Ideal S4096 .f32 :=
  fun i => Ideal.sqrt (max (dist x w (i 0).val (K (i 0).val)) 0)

/-- Both results' blocks at a point are the point's block of rows. -/
theorem index2 (t : Fin cfg0.N) : win0_2.index t = ![t.val / 4] ∧ win0_3.index t = ![t.val / 4] := by
  revert t; decide +kernel

variable (hD : ∀ p k, dist (inX m c) (inW m c) p k < ⊤) (K : ℕ → ℕ)
  (hK : ∀ p, FirstLeast (dist (inX m c) (inW m c) p) 1024 (K p))
include hD hK

/-- The first array ends as the first nearest units' numbers. -/
theorem arr2 : (dats m 0 c).arrAt 2 cfg0.N = units K := by
  refine (dats m 0 c).arrAt_eq_of_covers 2 _ (by decide +kernel) fun t hf y => ?_
  have h3 := (flush0_2 t).mp hf
  blk_simp
  rw [after2]
  idx_vars y
  unfold units
  blk_simp [index2 t]
  rw [Nat.mul_comm (t.val / 4)]
  exact idxAt_at m c hD t h3 y0 (hK _)

/-- The second ends as the roots of the distances to them. -/
theorem arr3 : (dats m 0 c).arrAt 3 cfg0.N = roots (inX m c) (inW m c) K := by
  refine (dats m 0 c).arrAt_eq_of_covers 3 _ (by decide +kernel) fun t hf y => ?_
  have h3 := (flush0_3 t).mp hf
  blk_simp
  rw [after3]
  idx_vars y
  unfold roots
  blk_simp [index2 t]
  rw [Nat.mul_comm (t.val / 4)]
  exact errAt_at m c hD t h3 y0 (hK _)

end Cert.KernelIdeal.Hand

end
-- ==== Proof.Search.Argmin.lean ====
/- The pairwise argmin folded over a list of values and their numbers keeps the first least of them. -/
module

public import proofs.«01_k».proof.Proof.Search.Scan

@[expose] public section

noncomputable section

namespace Cert.Search

open Idealize.ShloMosaic

/-- The order of the pairs: by value, then by number. -/
def before (a b : EReal × BitVec 32) : Prop := a.1 < b.1 ∨ (a.1 = b.1 ∧ a.2.toInt ≤ b.2.toInt)

/-- A pair is before itself. -/
theorem before_refl (a : EReal × BitVec 32) : before a a := Or.inr ⟨rfl, le_rfl⟩

/-- The order of the pairs is transitive. -/
theorem before_trans {a b c : EReal × BitVec 32} (h : before a b) (g : before b c) : before a c := by
  rcases h with h | ⟨h, h'⟩ <;> rcases g with g | ⟨g, g'⟩
  · exact Or.inl (h.trans g)
  · exact Or.inl (h.trans_eq g)
  · exact Or.inl (h.trans_lt g)
  · exact Or.inr ⟨h.trans g, h'.trans g'⟩

/-- `f` picks one of two pairs, one that is before both. -/
def Picks (f : EReal × BitVec 32 → EReal × BitVec 32 → EReal × BitVec 32) : Prop :=
  ∀ a b, (f a b = a ∨ f a b = b) ∧ before (f a b) a ∧ before (f a b) b

/-- Folded over a list such an `f` leaves a member of it, or the pair it began with, that is before all of them. -/
theorem Picks.foldl {f : EReal × BitVec 32 → EReal × BitVec 32 → EReal × BitVec 32} (hf : Picks f) :
    ∀ (l : List (EReal × BitVec 32)) (a : EReal × BitVec 32),
      (l.foldl f a = a ∨ l.foldl f a ∈ l) ∧ before (l.foldl f a) a ∧ ∀ p ∈ l, before (l.foldl f a) p
  | [], a => ⟨Or.inl rfl, before_refl a, fun p hp => absurd hp List.not_mem_nil⟩
  | b :: l, a => by
    obtain ⟨h1, h2, h3⟩ := Picks.foldl hf l (f a b)
    obtain ⟨g1, g2, g3⟩ := hf a b
    rw [List.foldl_cons]
    refine ⟨?_, before_trans h2 g2, fun p hp => ?_⟩
    · rcases h1 with h1 | h1
      · rw [h1]
        rcases g1 with g1 | g1
        · exact Or.inl g1
        · rw [g1]; exact Or.inr List.mem_cons_self
      · exact Or.inr (List.mem_cons_of_mem _ h1)
    · rcases List.mem_cons.mp hp with rfl | hp
      · exact before_trans h2 g3
      · exact h3 p hp

/-- Folded over a list whose members are the values below `⊤` at the places below `N`, each with its place, from the
    pair of `⊤` and zero, it leaves the first least place and the value there. -/
theorem Picks.firstLeast {f : EReal × BitVec 32 → EReal × BitVec 32 → EReal × BitVec 32} (hf : Picks f)
    {D : ℕ → EReal} {N : ℕ} (hN : 0 < N) (hN' : N ≤ 1024) (hD : ∀ k, D k < ⊤) (l : List (EReal × BitVec 32))
    (hl : ∀ p, p ∈ l ↔ ∃ k < N, p = (D k, BitVec.ofNat 32 k)) :
    ∃ K, FirstLeast D N K ∧ l.foldl f (⊤, 0#32) = (D K, BitVec.ofNat 32 K) := by
  obtain ⟨h1, h2, h3⟩ := hf.foldl l (⊤, 0#32)
  have hm : l.foldl f (⊤, 0#32) ∈ l := by
    rcases h1 with h1 | h1
    · have := h3 _ ((hl _).mpr ⟨0, hN, rfl⟩)
      rw [h1] at this
      rcases this with h | ⟨h, _⟩
      · exact absurd h (not_lt.mpr le_top)
      · exact absurd h (hD 0).ne'
    · exact h1
  obtain ⟨K, hK, e⟩ := (hl _).mp hm
  refine ⟨K, ⟨hK, fun j hj => ?_⟩, e⟩
  have := h3 _ ((hl _).mpr ⟨j, hj, rfl⟩)
  rw [e] at this
  rcases this with h | ⟨h, h'⟩
  · exact Or.inl h
  · simp only [] at h h'
    rw [toInt_ofNat (by omega), toInt_ofNat (by omega)] at h'
    exact Or.inr ⟨h, by omega⟩

end Cert.Search

end
-- ==== Proof.ReferenceIdeal.Argmin.lean ====
/- The reference's argmin over each row of distances is the first nearest unit's number. -/
module

public import proofs.«01_k».proof.Proof.Gen.ReferenceIdeal
public import proofs.«01_k».proof.Proof.Search.Argmin
public import proofs.«01_k».proof.Proof.Search.Distance
public import Idealize.ShloMosaic.PureOps.Reduce
public import Idealize.ShloMosaic.PureOps.Ideal.Laws

@[expose] public section

set_option maxRecDepth 16384

noncomputable section

namespace Cert.ReferenceIdeal.Hand

open Idealize.ShloMosaic Cert.ReferenceIdeal Cert.ReferenceIdeal.Gen Cert.Search

/-- The reference's reducer, case by case: the lower value wins, at equal values the lower number. -/
theorem reducer_eq (a b : EReal × BitVec 32) : reducer_argmin_f32_i32 (F := Ideal) a b
    = (if a.1 < b.1 then a.1 else b.1, if a.1 < b.1 ∨ (a.1 = b.1 ∧ a.2.slt b.2) then a.2 else b.2) := by
  unfold reducer_argmin_f32_i32
  by_cases h1 : a.1 < b.1 <;> by_cases h2 : a.1 = b.1 <;> by_cases h3 : a.2.slt b.2 <;>
    simp [Ideal.cmpf_def, Ideal.cmp, IntOp.ori, IntOp.andi, IntOp.cmpi, Scalar.select, h1, h2, h3]

/-- The reference's reducer picks the pair that is first by value, then by number. -/
theorem reducer_picks : Picks (reducer_argmin_f32_i32 (F := Ideal)) := by
  rintro ⟨a, n⟩ ⟨b, k⟩
  rw [reducer_eq]
  simp only [before, BitVec.slt_iff_toInt_lt]
  rcases lt_trichotomy a b with h | h | h
  · simp [h]
  · subst h
    by_cases hn : n.toInt < k.toInt
    · simp [hn, hn.le]
    · simp [hn, not_lt.mp hn]
  · simp [h, not_lt.mpr h.le, h.ne']

/-- Dropping the place of a value leaves its row. -/
theorem drop_eq (p : Fin 4096) (k : Fin 1024) : reducesTo_S4096x1024_S4096_d1.drop (ix2 p k) = ix1 p := by
  funext x
  fin_cases x
  rfl

/-- A row's members are its values, each with its place. -/
theorem mem_fiber (v : FVec Ideal S4096x1024 .f32) (p : Fin 4096) (D : ℕ → EReal) (hv : ∀ k : Fin 1024, v (ix2 p k) = D k.val)
    (q : EReal × BitVec 32) :
    q ∈ Host.argReduceFiber v (iotaInDim S4096x1024 32 1) reducesTo_S4096x1024_S4096_d1 (ix1 p)
      ↔ ∃ k < 1024, q = (D k, BitVec.ofNat 32 k) := by
  unfold Host.argReduceFiber
  simp only [List.mem_map, List.mem_filter, List.mem_finRange, true_and, decide_eq_true_eq]
  constructor
  · rintro ⟨n, hn, rfl⟩
    generalize S4096x1024.rowMajor.symm n = i at hn ⊢
    idx_vars i
    rw [drop_eq] at hn
    obtain rfl : i0 = p := congrFun hn 0
    refine ⟨i1.val, i1.isLt, ?_⟩
    rw [hv]
    pointwise
  · rintro ⟨k, hk, rfl⟩
    refine ⟨S4096x1024.rowMajor (ix2 p ⟨k, hk⟩), ?_, ?_⟩
    · rw [Equiv.symm_apply_apply, drop_eq]
    · rw [Equiv.symm_apply_apply, hv]
      pointwise

/-- The argmin of a row of values below `⊤` is the first least place. -/
theorem argmin_at (v : FVec Ideal S4096x1024 .f32) (p : Fin 4096) (D : ℕ → EReal) (hv : ∀ k : Fin 1024, v (ix2 p k) = D k.val)
    (hD : ∀ k, D k < ⊤) : ∃ K, FirstLeast D 1024 K ∧
      (Host.argReduce reducer_argmin_f32_i32 v (iotaInDim S4096x1024 32 1) (constant S_ .f32 0x7F800000#32)
        (constantI S_ 32 0#32) reducesTo_S4096x1024_S4096_d1 h_S_ (ix1 p)).2 = BitVec.ofNat 32 K := by
  obtain ⟨K, hK, e⟩ := reducer_picks.firstLeast (by decide : 0 < 1024) le_rfl hD _ (mem_fiber v p D hv)
  refine ⟨K, hK, ?_⟩
  rw [Ideal.argReduce_eq_reduce2, Host.reduce2_eq_foldl_fiber]
  refine (congrArg Prod.snd ?_).trans (congrArg Prod.snd e)
  congr 1

end Cert.ReferenceIdeal.Hand

end
-- ==== Proof.ReferenceIdeal.Value.lean ====
/- What the reference computes, in its own operations and then row by row. -/
module

public import proofs.«01_k».proof.Proof.ReferenceIdeal.Argmin
public import Idealize.ShloMosaic.Lib.Pointwise

@[expose] public section

set_option maxRecDepth 16384

noncomputable section

namespace Cert.ReferenceIdeal.Hand

open Idealize.ShloMosaic Cert.ReferenceIdeal Cert.ReferenceIdeal.Gen Cert.Search

/-- The map's units in one list. -/
def list (w : FVec Ideal S32x32x256 .f32) : FVec Ideal S1024x256 .f32 :=
  shapeCast S1024x256 w shapeCasts_S32x32x256_S1024x256

/-- The distances of every row to every unit. -/
def distances (x : FVec Ideal S4096x256 .f32) (w : FVec Ideal S32x32x256 .f32) : FVec Ideal S4096x1024 .f32 :=
  maximumf
    (addf
      (subf
        (broadcastInDim S4096x1024 ![0, 1] bcast_S4096x1_S4096x1024_0_1 (broadcastInDim S4096x1 ![0] bcast_S4096_S4096x1_0
          (Host.reduceAdd (mulf x x) (constant S_ .f32 0x00000000#32) reducesTo_S4096x256_S4096_d1 h_S_)))
        (mulf (broadcastInDim S4096x1024 ![] bcast_S_S4096x1024 (constant S_ .f32 0x40000000#32))
          (Host.dotGeneral dot_S4096x256_S256x1024_S4096x1024_1_0_0_1_n_n none x
            (transpose S256x1024 [1, 0] (list w) transposes_S1024x256_S256x1024_1_0))))
      (broadcastInDim S4096x1024 ![0, 1] bcast_S1x1024_S4096x1024_0_1 (broadcastInDim S1x1024 ![1] bcast_S1024_S1x1024_1
        (Host.reduceAdd (mulf (list w) (list w)) (constant S_ .f32 0x00000000#32) reducesTo_S1024x256_S1024_d1 h_S_))))
    (broadcastInDim S4096x1024 ![] bcast_S_S4096x1024 (constant S_ .f32 0x00000000#32))

/-- The argmin of each row. -/
def nearest (v : FVec Ideal S4096x1024 .f32) : IVec S4096 32 := fun j =>
  (Host.argReduce reducer_argmin_f32_i32 v (iotaInDim S4096x1024 32 1) (constant S_ .f32 0x7F800000#32)
    (constantI S_ 32 0#32) reducesTo_S4096x1024_S4096_d1 h_S_ j).2

/-- A number's quotient by 32, rounded down. -/
def quotient (u : IVec S4096 32) : IVec S4096 32 :=
  let d : IVec S4096 32 := broadcastInDim S4096 ![] bcast_S_S4096 (constantI S_ 32 32#32)
  select
    (andi (cmpi .ne (signi u) (broadcastInDim S4096 ![] bcast_S_S4096 (signi (constantI S_ 32 32#32))))
      (cmpi .ne (Host.remsi u d) (broadcastInDim S4096 ![] bcast_S_S4096 (constantI S_ 32 0#32))))
    (subi (Host.divsi u d) (broadcastInDim S4096 ![] bcast_S_S4096 (constantI S_ 32 1#32)))
    (Host.divsi u d)

/-- What a number leaves of that division. -/
def remainder (u : IVec S4096 32) : IVec S4096 32 :=
  let d : IVec S_ 32 := select (cmpi .eq (constantI S_ 32 32#32) (constantI S_ 32 0#32)) (constantI S_ 32 1#32) (constantI S_ 32 32#32)
  let r : IVec S4096 32 := Host.remsi u (broadcastInDim S4096 ![] bcast_S_S4096 d)
  select
    (andi (cmpi .ne (cmpi .slt r (broadcastInDim S4096 ![] bcast_S_S4096 (constantI S_ 32 0#32)))
        (broadcastInDim S4096 ![] bcast_S_S4096 (cmpi .slt d (constantI S_ 32 0#32))))
      (cmpi .ne r (broadcastInDim S4096 ![] bcast_S_S4096 (constantI S_ 32 0#32))))
    (addi r (broadcastInDim S4096 ![] bcast_S_S4096 d)) r

/-- The unit's two coordinates. -/
def place2 (u : IVec S4096 32) : IVec S4096x2 32 :=
  concatenate S4096x2 1 [⟨S4096x1, broadcastInDim S4096x1 ![0] bcast_S4096_S4096x1_0 (quotient u)⟩,
    ⟨S4096x1, broadcastInDim S4096x1 ![0] bcast_S4096_S4096x1_0 (remainder u)⟩] concatenates_S4096x1_S4096x1_S4096x2_d1

/-- The column each row's number names, a negative one counted from the end. -/
def column (u : IVec S4096 32) : IVec S4096x1x1 32 :=
  let u1 : IVec S4096x1 32 := broadcastInDim S4096x1 ![0] bcast_S4096_S4096x1_0 u
  shapeCast S4096x1x1
    (select (cmpi .slt u1 (broadcastInDim S4096x1 ![] bcast_S_S4096x1 (constantI S_ 32 0#32)))
      (addi u1 (broadcastInDim S4096x1 ![] bcast_S_S4096x1 (constantI S_ 32 1024#32))) u1)
    shapeCasts_S4096x1_S4096x1x1

/-- Each row's entry at the column its number names, where there is one. -/
def entry (v : FVec Ideal S4096x1024 .f32) (u : IVec S4096 32) : FVec Ideal S4096x1 .f32 :=
  select
    (Host.reduce IntOp.andi
      (andi (cmpi .sge (column u) (broadcastInDim S4096x1x1 ![] bcast_S_S4096x1x1 (constantI S_ 32 0#32)))
        (cmpi .sle (column u) (broadcastInDim S4096x1x1 ![0, 1, 2] bcast_S1x1x1_S4096x1x1_0_1_2
          (broadcastInDim S1x1x1 ![2] bcast_S1_S1x1x1_2 (constantI S1 32 1023#32)))))
      (constantI S_ 1 1#1) reducesTo_S4096x1x1_S4096x1_d2 h_S_)
    (Host.gather gather_S4096x1024_S4096x1x1_S4096x1_n_1_0_0_1_2_11 v (column u))
    (broadcastInDim S4096x1 ![] bcast_S_S4096x1 (constant S_ .f32 0x7FC00000#32))

/-- The root of each row's entry. -/
def root (v : FVec Ideal S4096x1024 .f32) (u : IVec S4096 32) : FVec Ideal S4096 .f32 :=
  Host.sqrt (shapeCast S4096 (entry v u) shapeCasts_S4096x1_S4096)

/-- The distance of row `p` to unit `k`. -/
theorem distances_at (x : FVec Ideal S4096x256 .f32) (w : FVec Ideal S32x32x256 .f32) (p : Fin 4096) (k : Fin 1024) :
    distances x w (ix2 p k) = rdist (fun l => x (ix2 p l))
      (fun l => w (ix3 ⟨k.val / 32, by omega⟩ ⟨k.val % 32, by omega⟩ l)) := by
  unfold rdist
  pointwise [distances, list]

/-- The gather reads row `p` at the column that row's index names. -/
theorem gather_at (v : FVec Ideal S4096x1024 .f32) (q : IVec S4096x1x1 32) (p : Fin 4096) (k : Fin 1024)
    (hq : q (ix3 p 0 0) = BitVec.ofNat 32 k.val) : Host.gather gather_S4096x1024_S4096x1x1_S4096x1_n_1_0_0_1_2_11 v q (ix2 p 0) = v (ix2 p k) := by
  refine congrArg v (funext fun a => Fin.ext ?_)
  show GatherDims.start gather_S4096x1024_S4096x1x1_S4096x1_n_1_0_0_1_2_11 (ix2 p 0) q a + GatherDims.batchCoord gather_S4096x1024_S4096x1x1_S4096x1_n_1_0_0_1_2_11 (ix2 p 0) a + GatherDims.offCoord gather_S4096x1024_S4096x1x1_S4096x1_n_1_0_0_1_2_11 (ix2 p 0) a = _
  have two : ∀ a : Fin 2, a = 0 ∨ a = 1 := by decide
  obtain rfl | rfl := two a
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ GatherDims.operandBatchingDims gather_S4096x1024_S4096x1x1_S4096x1_n_1_0_0_1_2_11 from List.mem_singleton.mpr rfl)]
    simp only [Nat.zero_add, Nat.add_zero]
    rfl
  · rw [GatherDims.batchCoord_eq_zero _ _ _ (fun h => by simp [gather_S4096x1024_S4096x1x1_S4096x1_n_1_0_0_1_2_11] at h),
      GatherDims.offCoord_eq_zero _ _ _ (fun h => ((GatherDims.mem_sKept _ _).mp h).1 (List.mem_singleton.mpr rfl))]
    unfold GatherDims.start
    rw [dif_pos (show (1 : Fin 2) ∈ GatherDims.startIndexMap gather_S4096x1024_S4096x1x1_S4096x1_n_1_0_0_1_2_11 from List.mem_singleton.mpr rfl)]
    have hs : GatherDims.siIdx gather_S4096x1024_S4096x1x1_S4096x1_n_1_0_0_1_2_11 (ix2 p 0) ⟨List.idxOf (1 : Fin 2) [1], by decide⟩ = ix3 p 0 0 := by
      funext b
      fin_cases b <;> rfl
    have hk : (BitVec.ofNat 32 k.val).toInt = (k.val : ℤ) := toInt_ofNat (by have := k.isLt; omega)
    refine (congrArg (fun z : BitVec 32 => min z.toInt.toNat 1023 + 0 + 0) ((congrArg q hs).trans hq)).trans ?_
    have := k.isLt
    simp only [hk, Int.toNat_natCast]
    show min k.val 1023 + 0 + 0 = k.val
    omega

/-- A column's number is not negative and at most 1023. -/
theorem column_range (k : Fin 1024) :
    IntOp.cmpi .slt (BitVec.ofNat 32 k.val) 0#32 = 0#1 ∧ IntOp.cmpi .sge (BitVec.ofNat 32 k.val) 0#32 = 1#1
      ∧ IntOp.cmpi .sle (BitVec.ofNat 32 k.val) 1023#32 = 1#1 := by
  revert k; decide +kernel

/-- Where the number is a column's, the entry is the root's. -/
theorem root_at (v : FVec Ideal S4096x1024 .f32) (u : IVec S4096 32) (p : Fin 4096) (k : Fin 1024)
    (hu : u (ix1 p) = BitVec.ofNat 32 k.val) : root v u (ix1 p) = Ideal.sqrt (v (ix2 p k)) := by
  obtain ⟨r1, r2, r3⟩ := column_range k
  have hc : column u (ix3 p 0 0) = BitVec.ofNat 32 k.val := by
    unfold column
    pointwise
    rw [hu, r1]
    rfl
  unfold root entry
  generalize column u = q at hc ⊢
  pointwise
  rw [gather_at v q p k hc]
  simp only [Finset.univ_unique, Finset.fold_singleton, show (default : Fin 1) = 0 from rfl, hc, r2, r3]
  rfl

end Cert.ReferenceIdeal.Hand

end
-- ==== Proof.KernelIdeal.Run.lean ====
/- The kernel's run, with its two results in terms of the launch's arrays. -/
module

public import proofs.«01_k».proof.Proof.KernelIdeal.Arrays
public import proofs.«01_k».proof.Proof.ReferenceIdeal.Value
public import Idealize.ShloMosaic.Lib.Claim
public import Idealize.ShloMosaic.Lib.StableHlo.RunRead

@[expose] public section

set_option maxRecDepth 16384

noncomputable section

namespace Cert.KernelIdeal.Hand

open Idealize.ShloMosaic Idealize.ShloMosaic.TcCoe Idealize.SL.Sem Cert.KernelIdeal.Gen Cert.Search

variable (m : (ℓ : Loc nD τ sig) → Buf (Elt Ideal) ℓ) (ρ : Dev nD → PrngReg)

/-- The operations after the launch turn its first array into the units' coordinates, as the reference's do. -/
theorem tail_place (c : Dev nD) :
    Pipeline.afterTail₀ cfgs (dats m) 0 (V0 m) [hostOps1, hostOps1_1, hostOps1_2, hostOps1_3, hostOps1_4] c main_v6
      = Cert.ReferenceIdeal.Hand.place2 ((dats m 0 c).arrAt 2 cfg0.N) := by
  unfold Pipeline.afterTail₀
  have hv : Pipeline.withArrays (cfgs 0).spec c (V0 m c) (fun w => (dats m 0 c).arrAt w (cfgs 0).N) (Proc.devRef .tc main_v1_0)
      = (dats m 0 c).arrAt 2 cfg0.N :=
    Pipeline.withArrays_arr (cfgs 0).spec (by decide) c _ _ 2
  rw [← hv]
  generalize Pipeline.withArrays (cfgs 0).spec c (V0 m c) (fun w => (dats m 0 c).arrAt w (cfgs 0).N) = V1
  simp only [List.flatten_cons, List.flatten_nil, List.append_nil]
  after_reads_simp
  refine congrArg₂ (fun a b : IVec Cert.ReferenceIdeal.S4096x1 32 => concatenate Cert.ReferenceIdeal.S4096x2 1
    [⟨Cert.ReferenceIdeal.S4096x1, a⟩, ⟨Cert.ReferenceIdeal.S4096x1, b⟩] _) ?_ ?_
  · after_reads_simp
    generalize V1 (Proc.devRef .tc main_v1_0) = u
    simp -implicitDefEqProofs only [StableHlo.TRef.ofBuf_toBuf, id]
    simp -implicitDefEqProofs only [StableHlo.TRef.ofBuf, StableHlo.TRef.toBuf, cast_eq]
    unfold Cert.ReferenceIdeal.Hand.quotient
    rfl
  · after_reads_simp
    generalize V1 (Proc.devRef .tc main_v1_0) = u
    simp -implicitDefEqProofs only [StableHlo.TRef.ofBuf_toBuf, id]
    simp -implicitDefEqProofs only [StableHlo.TRef.ofBuf, StableHlo.TRef.toBuf, cast_eq]
    unfold Cert.ReferenceIdeal.Hand.remainder
    rfl

variable (hD : ∀ c p k, dist (inX m c) (inW m c) p k < ⊤) (K : Dev nD → ℕ → ℕ)
  (hK : ∀ c p, FirstLeast (dist (inX m c) (inW m c) p) 1024 (K c p))
include hD hK

/-- The kernel ends with the nearest units' coordinates, the roots of their distances and its arguments. -/
theorem run_values : θ_run defs (onTc (τ := τ) (main (F := Ideal))) ⟨m, fun _ => 0, ρ⟩ (fun r => ∀ c : Dev nD,
      r.2.mem ((c.tc : Thread nD τ).loc main_v6) = Cert.ReferenceIdeal.Hand.place2 (units (K c))
      ∧ r.2.mem ((c.tc : Thread nD τ).loc main_v1_1) = roots (inX m c) (inW m c) (K c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (θ_run_and (run m ρ) (frame m ρ)) fun r ⟨h, hf⟩ c => ⟨?_, ?_, (hf.1 c).1, (hf.1 c).2⟩
  · refine ((h c).2 main_v6 (Pipeline.mem_restRefs_of main_v6 (by decide) (by decide))).trans ?_
    rw [tail_place m c, arr2 m c (hD c) (K c) (hK c)]
  · exact ((h c).1 3).trans (arr3 m c (hD c) (K c) (hK c))

end Cert.KernelIdeal.Hand

end
-- ==== Proof.ReferenceIdeal.Run.lean ====
/- The reference's run, with its two results in its own operations. -/
module

public import proofs.«01_k».proof.Proof.ReferenceIdeal.Frame
public import proofs.«01_k».proof.Proof.ReferenceIdeal.Value
public import Idealize.ShloMosaic.Lib.StableHlo.RunRead

@[expose] public section

set_option maxRecDepth 16384

noncomputable section

namespace Cert.ReferenceIdeal.Hand

open Idealize.ShloMosaic Idealize.SL.Sem Cert.ReferenceIdeal Cert.ReferenceIdeal.Gen

/-- A line of operations runs as its first `n` and then the rest. -/
theorem after_split (n : ℕ) (ops : List (HloOp τ sig (Elt Ideal))) (V : Valuation τ sig (Elt Ideal)) :
    StableHlo.after ops V = StableHlo.after (ops.drop n) (StableHlo.after (ops.take n) V) := by
  induction n generalizing ops V with
  | zero => rfl
  | succ n ih =>
    cases ops with
    | nil => rfl
    | cons op ops => exact ih ops (op.result V)

set_option maxHeartbeats 1600000 in
/-- The reference ends with the nearest units' coordinates, the roots of their distances and its arguments. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v22)
          = place2 (nearest (distances (m ((c.tc : Thread nD τ).loc main_arg0)) (m ((c.tc : Thread nD τ).loc main_arg1))))
      ∧ r.2.mem ((c.tc : Thread nD τ).loc main_v26)
          = root (distances (m ((c.tc : Thread nD τ).loc main_arg0)) (m ((c.tc : Thread nD τ).loc main_arg1)))
              (nearest (distances (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (StableHlo.run_hlo _ _ (by hlo_seq) (by decide) (by decide) (by simp)
    (by intro _ h; (repeat (cases h with | head => rfl | tail _ h => ?_)); exact nomatch h) _ _) fun r hr c => ?_
  rw [hr c main_v22, hr c main_v26, hr c main_arg0, hr c main_arg1]
  clear hr
  rw [after_split 21]
  generalize hV1 : StableHlo.after (List.take 21 _) _ = V1
  have h16 : V1 (Proc.devRef .tc main_v16)
      = distances (m ((c.tc : Thread nD τ).loc main_arg0)) (m ((c.tc : Thread nD τ).loc main_arg1)) := by
    rw [← hV1]
    simp only [List.take_succ_cons, List.take_zero]
    after_reads_simp
    rfl
  have h0 : V1 (Proc.devRef .tc main_arg0) = m ((c.tc : Thread nD τ).loc main_arg0) := by
    rw [← hV1]
    simp only [List.take_succ_cons, List.take_zero]
    after_reads_simp
  have h1 : V1 (Proc.devRef .tc main_arg1) = m ((c.tc : Thread nD τ).loc main_arg1) := by
    rw [← hV1]
    simp only [List.take_succ_cons, List.take_zero]
    after_reads_simp
  clear hV1
  simp only [List.drop_succ_cons, List.drop_zero]
  rw [after_split 5]
  generalize hV2 : StableHlo.after (List.take 5 _) _ = V2
  have k17 : V2 (Proc.devRef .tc main_v17) = nearest (V1 (Proc.devRef .tc main_v16)) := by
    rw [← hV2]
    simp only [List.take_succ_cons, List.take_zero]
    after_reads_simp
    rfl
  have k16 : V2 (Proc.devRef .tc main_v16) = V1 (Proc.devRef .tc main_v16) := by
    rw [← hV2]
    simp only [List.take_succ_cons, List.take_zero]
    after_reads_simp
  have k0 : V2 (Proc.devRef .tc main_arg0) = V1 (Proc.devRef .tc main_arg0) := by
    rw [← hV2]
    simp only [List.take_succ_cons, List.take_zero]
    after_reads_simp
  have k1 : V2 (Proc.devRef .tc main_arg1) = V1 (Proc.devRef .tc main_arg1) := by
    rw [← hV2]
    simp only [List.take_succ_cons, List.take_zero]
    after_reads_simp
  clear hV2
  simp only [List.drop_succ_cons, List.drop_zero]
  rw [← h16, ← k17, ← k16]
  refine ⟨?_, ?_, ?_, ?_⟩
  · after_reads_simp
    refine congrArg₂ (fun a b : IVec S4096x1 32 => concatenate S4096x2 1 [⟨S4096x1, a⟩, ⟨S4096x1, b⟩] _) ?_ ?_
    · after_reads_simp
      generalize V2 (Proc.devRef .tc main_v17) = u
      simp -implicitDefEqProofs only [StableHlo.TRef.ofBuf_toBuf, id]
      simp -implicitDefEqProofs only [StableHlo.TRef.ofBuf, StableHlo.TRef.toBuf, cast_eq]
      unfold quotient
      rfl
    · after_reads_simp
      generalize V2 (Proc.devRef .tc main_v17) = u
      simp -implicitDefEqProofs only [StableHlo.TRef.ofBuf_toBuf, id]
      simp -implicitDefEqProofs only [StableHlo.TRef.ofBuf, StableHlo.TRef.toBuf, cast_eq]
      unfold remainder
      rfl
  · after_reads_simp
    generalize V2 (Proc.devRef .tc main_v17) = u
    generalize V2 (Proc.devRef .tc main_v16) = v
    simp -implicitDefEqProofs only [StableHlo.TRef.ofBuf_toBuf, id]
    simp -implicitDefEqProofs only [StableHlo.TRef.ofBuf, StableHlo.TRef.toBuf, cast_eq]
    unfold root entry column
    rfl
  · after_reads_simp
    rw [k0, h0]
  · after_reads_simp
    rw [k1, h1]

end Cert.ReferenceIdeal.Hand

end
-- ==== Proof.Equal.Results.lean ====
/- The two programs' results are the same arrays. -/
module

public import proofs.«01_k».proof.Proof.KernelIdeal.Run
public import proofs.«01_k».proof.Proof.ReferenceIdeal.Run

@[expose] public section

set_option maxRecDepth 16384

noncomputable section

namespace Cert.Equal

open Idealize.ShloMosaic Cert.Search Cert.KernelIdeal Cert.KernelIdeal.Hand Cert.ReferenceIdeal.Hand

/-- Each row's argmin is its first least place. -/
theorem nearest_at (v : FVec Ideal Cert.ReferenceIdeal.S4096x1024 .f32) (p : Fin 4096) (D : ℕ → EReal)
    (hv : ∀ k : Fin 1024, v (ix2 p k) = D k.val) (hD : ∀ k, D k < ⊤) :
    ∃ K, FirstLeast D 1024 K ∧ nearest v (ix1 p) = BitVec.ofNat 32 K := by
  obtain ⟨K, h, e⟩ := argmin_at v p D hv hD
  have f : nearest v = fun j => (Host.argReduce Cert.ReferenceIdeal.reducer_argmin_f32_i32 v
      (iotaInDim Cert.ReferenceIdeal.S4096x1024 32 1) (constant Cert.ReferenceIdeal.S_ .f32 0x7F800000#32)
      (constantI Cert.ReferenceIdeal.S_ 32 0#32) Cert.ReferenceIdeal.Gen.reducesTo_S4096x1024_S4096_d1
      Cert.ReferenceIdeal.Gen.h_S_ j).2 := rfl
  exact ⟨K, h, (congrFun f (ix1 p)).trans e⟩

/-- An index of a row is its one coordinate's. -/
theorem index_row (i : S4096.Idx) : ∃ p : Fin 4096, i = ix1 p := ⟨i 0, by funext a; fin_cases a; rfl⟩

/-- Where the distances agree and none is negative, so do the roots. -/
theorem root_units (x : Vec Ideal S4096x256 .f32) (w : Vec Ideal S32x32x256 .f32) (K : ℕ → ℕ) (hK : ∀ p, K p < 1024)
    (hd : ∀ (p : Fin 4096) (k : Fin 1024), distances x w (ix2 p k) = dist x w p.val k.val)
    (h0 : ∀ p k, 0 ≤ dist x w p k) : root (distances x w) (units K) = roots x w K := by
  funext i
  obtain ⟨p, rfl⟩ := index_row i
  refine (root_at (distances x w) (units K) p ⟨K p.val, hK p.val⟩ rfl).trans ?_
  rw [hd]
  exact congrArg Ideal.sqrt (max_eq_left (h0 p.val (K p.val))).symm

variable (x : Vec Ideal S4096x256 .f32) (w : Vec Ideal S32x32x256 .f32)
  (hx : ∀ p l, Finite (x (ix2 p l))) (hw : ∀ a b l, Finite (w (ix3 a b l)))
include hx hw

/-- A distance is finite and at least zero. -/
theorem dist_range (p k : ℕ) : dist x w p k < ⊤ ∧ 0 ≤ dist x w p k :=
  (dist_eq (x := xrow x p) (w := wrow w k) (fun l => hx _ l) (fun l => hw _ _ l)).2

/-- The reference's distances are the kernel's. -/
theorem distances_eq (p : Fin 4096) (k : Fin 1024) : distances x w (ix2 p k) = dist x w p.val k.val := by
  refine (distances_at x w p k).trans (Eq.trans ?_
    (dist_eq (x := xrow x p.val) (w := wrow w k.val) (fun l => hx _ l) (fun l => hw _ _ l)).1)
  congr 1
  · funext l
    unfold xrow
    simp only [Nat.mod_eq_of_lt p.isLt]
  · funext l
    unfold wrow
    simp only [Nat.mod_eq_of_lt (show k.val / 32 < 32 by omega)]

/-- Each row has a first nearest unit, and it is the one the reference names. -/
theorem nearest_eq : ∃ K : ℕ → ℕ, (∀ p, FirstLeast (dist x w p) 1024 (K p)) ∧ nearest (distances x w) = units K := by
  have h : ∀ p : ℕ, ∃ K, FirstLeast (dist x w p) 1024 K
      ∧ nearest (distances x w) (ix1 ⟨p % 4096, Nat.mod_lt _ (by decide)⟩) = BitVec.ofNat 32 K := fun p => by
    have e : xrow x (p % 4096) = xrow x p := by
      unfold xrow
      simp only [Nat.mod_mod]
    exact nearest_at (distances x w) ⟨p % 4096, Nat.mod_lt _ (by decide)⟩ (dist x w p)
      (fun k => (distances_eq x w hx hw _ k).trans (congrArg (fun r => kdist r (wrow w k.val)) e))
      (fun k => (dist_range x w hx hw _ k).1)
  choose K hK using h
  refine ⟨K, fun p => (hK p).1, funext fun i => ?_⟩
  obtain ⟨p, rfl⟩ := index_row i
  have := (hK p.val).2
  simp only [Nat.mod_eq_of_lt p.isLt] at this
  exact this

/-- The roots agree. -/
theorem root_eq (K : ℕ → ℕ) (hK : ∀ p, FirstLeast (dist x w p) 1024 (K p)) :
    root (distances x w) (units K) = roots x w K :=
  root_units x w K (fun p => (hK p).1) (fun p k => distances_eq x w hx hw p k) (fun p k => (dist_range x w hx hw p k).2)

end Cert.Equal

end
-- ==== Proof.lean ====
/- The proof of the certificate's claim: the three programs run and leave their arguments alone, the idealized kernel
   is the kernel's own text, and the idealized kernel and the idealized reference end with equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.ReferenceIdeal.Frame
public import proofs.«01_k».proof.Proof.Kernel.Frame
public import proofs.«01_k».proof.Proof.KernelIdeal.Frame
public import proofs.«01_k».proof.Proof.Equal.Finite
public import proofs.«01_k».proof.Proof.Equal.Results
public import Idealize.ShloMosaic.Adequacy
public import Idealize.ShloMosaic.Init

@[expose] public section

noncomputable section

namespace Cert.Proof

open Idealize.ShloMosaic Idealize.SL.Sem Cert.Kernel

/-- From memories that agree on finite arguments, both programs end with the same coordinates and the same roots. -/
theorem algebraic : Cert.algebraic_KernelIdeal_ReferenceIdeal_pre_finite := by
  intro m g m' g' hpre hagree
  have hx : ∀ c p l, Cert.Search.Finite (Cert.KernelIdeal.Hand.inX m c (ix2 p l)) :=
    fun c => Cert.Equal.input_finite _ _ (hpre c).1
  have hw : ∀ c a b l, Cert.Search.Finite (Cert.KernelIdeal.Hand.inW m c (ix3 a b l)) :=
    fun c => Cert.Equal.weight_finite _ _ (hpre c).2
  choose K hK hn using fun c => Cert.Equal.nearest_eq (Cert.KernelIdeal.Hand.inX m c) (Cert.KernelIdeal.Hand.inW m c) (hx c) (hw c)
  refine ⟨fun c => Cert.ReferenceIdeal.Hand.place2 (Cert.KernelIdeal.Hand.units (K c)),
    fun c => Cert.KernelIdeal.Hand.roots (Cert.KernelIdeal.Hand.inX m c) (Cert.KernelIdeal.Hand.inW m c) (K c),
    Cert.KernelIdeal.Hand.run_values m g
      (fun c p k => (Cert.Equal.dist_range _ _ (hx c) (hw c) p k).1) K hK,
    θ_run_mono (Cert.ReferenceIdeal.Hand.run m' g') fun r hr c => ?_⟩
  obtain ⟨h0, h1, ha, hb⟩ := hr c
  refine ⟨h0.trans ?_, h1.trans ?_, ha, hb⟩
  · rw [(hagree c).1, (hagree c).2]
    exact congrArg Cert.ReferenceIdeal.Hand.place2 (hn c)
  · rw [(hagree c).1, (hagree c).2]
    exact (congrArg (Cert.ReferenceIdeal.Hand.root _) (hn c)).trans (Cert.Equal.root_eq _ _ (hx c) (hw c) (K c) (hK c))

/-- The certificate's claim. -/
theorem claim : Cert.Claim :=
  ⟨Cert.Kernel.Gen.facts, Cert.KernelIdeal.Gen.facts, Cert.ReferenceIdeal.Gen.facts, Cert.Pre_finite.Gen.facts,
    fun m ρ _ => Cert.Kernel.Hand.frame m ρ, fun m ρ _ => Cert.KernelIdeal.Hand.frame m ρ,
    fun m ρ _ => Cert.KernelIdeal.Hand.frame m ρ, fun m ρ _ => Cert.ReferenceIdeal.Hand.frame m ρ,
    fun m ρ _ => Cert.ReferenceIdeal.Hand.frame m ρ, trivial, algebraic⟩

end Cert.Proof

end
